-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_varied [hPre_varied : Cert.Pre_varied.Facts] (m : (ℓ : Loc Cert.KernelIdeal.nD Cert.KernelIdeal.τ Cert.KernelIdeal.sig) → Buf (Elt Ideal) ℓ) : Prop :=
  ∀ c : Dev Cert.KernelIdeal.nD,
    (Cert.Pre_varied.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_varied [hPre_varied : Cert.Pre_varied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_varied.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_varied [hKernelIdeal : Cert.KernelIdeal.Facts] [hPre_varied : Cert.Pre_varied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_varied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_varied [hReferenceIdeal : Cert.ReferenceIdeal.Facts] [hPre_varied : Cert.Pre_varied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_varied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_varied [hKernelIdeal : Cert.KernelIdeal.Facts] [hReferenceIdeal : Cert.ReferenceIdeal.Facts] [hPre_varied : Cert.Pre_varied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_varied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_varied : Cert.Pre_varied.Facts),
    quiescent_Kernel (hKernel := hKernel)
    ∧ quiescent_KernelIdeal (hKernelIdeal := hKernelIdeal)
    ∧ quiescent_KernelIdeal_pre_varied (hKernelIdeal := hKernelIdeal) (hPre_varied := hPre_varied)
    ∧ quiescent_ReferenceIdeal (hReferenceIdeal := hReferenceIdeal)
    ∧ quiescent_ReferenceIdeal_pre_varied (hReferenceIdeal := hReferenceIdeal) (hPre_varied := hPre_varied)
    ∧ preserves_Kernel_KernelIdeal
    ∧ algebraic_KernelIdeal_ReferenceIdeal_pre_varied (hKernelIdeal := hKernelIdeal) (hReferenceIdeal := hReferenceIdeal) (hPre_varied := hPre_varied)
-- ==== Pre_varied.lean ====
abbrev S8x3x512x512 : Shape := ⟨4, ![8, 3, 512, 512]⟩
abbrev S8x1x3x3 : Shape := ⟨4, ![8, 1, 3, 3]⟩
abbrev S1x8x1x1 : Shape := ⟨4, ![1, 8, 1, 1]⟩
abbrev S8x1x512x512 : Shape := ⟨4, ![8, 1, 512, 512]⟩
abbrev S_ : Shape := ⟨0, ![]⟩
abbrev S8x1x514x514 : Shape := ⟨4, ![8, 1, 514, 514]⟩
abbrev S8x1x1x1 : Shape := ⟨4, ![8, 1, 1, 1]⟩
abbrev S8 : Shape := ⟨1, ![8]⟩
abbrev S8x8x512x512 : Shape := ⟨4, ![8, 8, 512, 512]⟩
abbrev S8x512x512 : Shape := ⟨3, ![8, 512, 512]⟩
abbrev S8x262144 : Shape := ⟨2, ![8, 262144]⟩
abbrev S8x256 : Shape := ⟨2, ![8, 256]⟩
abbrev S8x1 : Shape := ⟨2, ![8, 1]⟩
abbrev S8x262144x1 : Shape := ⟨3, ![8, 262144, 1]⟩
abbrev S8x262144x2 : Shape := ⟨3, ![8, 262144, 2]⟩
abbrev S8x1x1 : Shape := ⟨3, ![8, 1, 1]⟩

class Facts : Prop where
  slices_S8x3x512x512_S8x1x512x512_0_0_0_0 : S8x3x512x512.Slices ![0, 0, 0, 0] S8x1x512x512
  bcast_S_S8x1x512x512 : S_.BroadcastsInDim S8x1x512x512 (![] : Fin 0 → Fin S8x1x512x512.rank)
  slices_S8x3x512x512_S8x1x512x512_0_1_0_0 : S8x3x512x512.Slices ![0, 1, 0, 0] S8x1x512x512
  slices_S8x3x512x512_S8x1x512x512_0_2_0_0 : S8x3x512x512.Slices ![0, 2, 0, 0] S8x1x512x512
  pads_S8x1x512x512_S8x1x514x514_000_000_110_110 : S8x1x512x512.Pads (![0, 0, 1, 1] : Fin 4 → Nat) ![0, 0, 1, 1] ![0, 0, 0, 0] S8x1x514x514
  h_S_ : 0 < S_.numel
  slices_S8x1x514x514_S8x1x512x512_0_0_0_0 : S8x1x514x514.Slices ![0, 0, 0, 0] S8x1x512x512
  slices_S8x1x3x3_S8x1x1x1_0_0_0_0 : S8x1x3x3.Slices ![0, 0, 0, 0] S8x1x1x1
  shapeCasts_S8x1x1x1_S8 : S8x1x1x1.ShapeCasts S8
  bcast_S8_S1x8x1x1_1 : S8.BroadcastsInDim S1x8x1x1 (![1] : Fin 1 → Fin S1x8x1x1.rank)
  bcast_S8x1x512x512_S8x8x512x512_0_1_2_3 : S8x1x512x512.BroadcastsInDim S8x8x512x512 (![0, 1, 2, 3] : Fin 4 → Fin S8x8x512x512.rank)
  bcast_S1x8x1x1_S8x8x512x512_0_1_2_3 : S1x8x1x1.BroadcastsInDim S8x8x512x512 (![0, 1, 2, 3] : Fin 4 → Fin S8x8x512x512.rank)
  bcast_S_S8x8x512x512 : S_.BroadcastsInDim S8x8x512x512 (![] : Fin 0 → Fin S8x8x512x512.rank)
  slices_S8x1x514x514_S8x1x512x512_0_0_0_1 : S8x1x514x514.Slices ![0, 0, 0, 1] S8x1x512x512
  slices_S8x1x3x3_S8x1x1x1_0_0_0_1 : S8x1x3x3.Slices ![0, 0, 0, 1] S8x1x1x1
  slices_S8x1x514x514_S8x1x512x512_0_0_0_2 : S8x1x514x514.Slices ![0, 0, 0, 2] S8x1x512x512
  slices_S8x1x3x3_S8x1x1x1_0_0_0_2 : S8x1x3x3.Slices ![0, 0, 0, 2] S8x1x1x1
  slices_S8x1x514x514_S8x1x512x512_0_0_1_0 : S8x1x514x514.Slices ![0, 0, 1, 0] S8x1x512x512
  slices_S8x1x3x3_S8x1x1x1_0_0_1_0 : S8x1x3x3.Slices ![0, 0, 1, 0] S8x1x1x1
  slices_S8x1x514x514_S8x1x512x512_0_0_1_1 : S8x1x514x514.Slices ![0, 0, 1, 1] S8x1x512x512
  slices_S8x1x3x3_S8x1x1x1_0_0_1_1 : S8x1x3x3.Slices ![0, 0, 1, 1] S8x1x1x1
  slices_S8x1x514x514_S8x1x512x512_0_0_1_2 : S8x1x514x514.Slices ![0, 0, 1, 2] S8x1x512x512
  slices_S8x1x3x3_S8x1x1x1_0_0_1_2 : S8x1x3x3.Slices ![0, 0, 1, 2] S8x1x1x1
  slices_S8x1x514x514_S8x1x512x512_0_0_2_0 : S8x1x514x514.Slices ![0, 0, 2, 0] S8x1x512x512
  slices_S8x1x3x3_S8x1x1x1_0_0_2_0 : S8x1x3x3.Slices ![0, 0, 2, 0] S8x1x1x1
  slices_S8x1x514x514_S8x1x512x512_0_0_2_1 : S8x1x514x514.Slices ![0, 0, 2, 1] S8x1x512x512
  slices_S8x1x3x3_S8x1x1x1_0_0_2_1 : S8x1x3x3.Slices ![0, 0, 2, 1] S8x1x1x1
  slices_S8x1x514x514_S8x1x512x512_0_0_2_2 : S8x1x514x514.Slices ![0, 0, 2, 2] S8x1x512x512
  slices_S8x1x3x3_S8x1x1x1_0_0_2_2 : S8x1x3x3.Slices ![0, 0, 2, 2] S8x1x1x1
  reducesTo_S8x8x512x512_S8x512x512_d1 : S8x8x512x512.ReducesTo [1] S8x512x512
  shapeCasts_S8x512x512_S8x262144 : S8x512x512.ShapeCasts S8x262144
  bcast_S_S8x256 : S_.BroadcastsInDim S8x256 (![] : Fin 0 → Fin S8x256.rank)
  bcast_S8_S8x1_0 : S8.BroadcastsInDim S8x1 (![0] : Fin 1 → Fin S8x1.rank)
  bcast_S_S8x1 : S_.BroadcastsInDim S8x1 (![] : Fin 0 → Fin S8x1.rank)
  bcast_S_S8x262144 : S_.BroadcastsInDim S8x262144 (![] : Fin 0 → Fin S8x262144.rank)
  bcast_S8x1_S8x262144_0_1 : S8x1.BroadcastsInDim S8x262144 (![0, 1] : Fin 2 → Fin S8x262144.rank)
  bcast_S8x262144_S8x262144x1_0_1 : S8x262144.BroadcastsInDim S8x262144x1 (![0, 1] : Fin 2 → Fin S8x262144x1.rank)
  concatenates_S8x262144x1_S8x262144x1_S8x262144x2_d2 : Shape.Concatenates [S8x262144x1, S8x262144x1] S8x262144x2 2
  reducesTo_S8x256_S8_d1 : S8x256.ReducesTo [1] S8
  bcast_S8x1_S8x256_0_1 : S8x1.BroadcastsInDim S8x256 (![0, 1] : Fin 2 → Fin S8x256.rank)
  reducesTo_S8x512x512_S8_d1_2 : S8x512x512.ReducesTo [1, 2] S8
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S8x1x1_S8x512x512_0_1_2 : S8x1x1.BroadcastsInDim S8x512x512 (![0, 1, 2] : Fin 3 → Fin S8x512x512.rank)
  reducesTo_S8x1_S_d0_1 : S8x1.ReducesTo [0, 1] S_
  reducesTo_S8x1x1_S_d0_1_2 : S8x1x1.ReducesTo [0, 1, 2] S_
  scatter_S8x256_S8x262144x2_S8x262144_n_01_01_2_wf : ScatterDims.WF S8x256 S8x262144x2 S8x262144 [] [0, 1] [0, 1] 2

variable [Facts]

def scatter_S8x256_S8x262144x2_S8x262144_n_01_01_2 : ScatterDims S8x256 S8x262144x2 S8x262144 where
  updateWindowDims := []
  insertedWindowDims := [0, 1]
  scatterDimsToOperandDims := [0, 1]
  indexVectorDim := 2
  wf := scatter_S8x256_S8x262144x2_S8x262144_n_01_01_2_wf

noncomputable abbrev lit0 : Fin 72 → BitVec 32 := fun
  | 0 => 0x00000000#32 | 1 => 0x00000000#32 | 2 => 0x3F800000#32 | 3 => 0x00000000#32 | 4 => 0xBF800000#32 | 5 => 0x00000000#32 | 6 => 0x00000000#32 | 7 => 0x00000000#32
  | 8 => 0x00000000#32 | 9 => 0x00000000#32 | 10 => 0x00000000#32 | 11 => 0x00000000#32 | 12 => 0x00000000#32 | 13 => 0xBF800000#32 | 14 => 0x3F800000#32 | 15 => 0x00000000#32
  | 16 => 0x00000000#32 | 17 => 0x00000000#32 | 18 => 0x00000000#32 | 19 => 0x00000000#32 | 20 => 0x00000000#32 | 21 => 0x00000000#32 | 22 => 0xBF800000#32 | 23 => 0x00000000#32
  | 24 => 0x00000000#32 | 25 => 0x00000000#32 | 26 => 0x3F800000#32 | 27 => 0x00000000#32 | 28 => 0x00000000#32 | 29 => 0x00000000#32 | 30 => 0x00000000#32 | 31 => 0xBF800000#32
  | 32 => 0x00000000#32 | 33 => 0x00000000#32 | 34 => 0x3F800000#32 | 35 => 0x00000000#32 | 36 => 0x00000000#32 | 37 => 0x00000000#32 | 38 => 0x00000000#32 | 39 => 0x00000000#32
  | 40 => 0xBF800000#32 | 41 => 0x00000000#32 | 42 => 0x3F800000#32 | 43 => 0x00000000#32 | 44 => 0x00000000#32 | 45 => 0x00000000#32 | 46 => 0x00000000#32 | 47 => 0x00000000#32
  | 48 => 0x3F800000#32 | 49 => 0xBF800000#32 | 50 => 0x00000000#32 | 51 => 0x00000000#32 | 52 => 0x00000000#32 | 53 => 0x00000000#32 | 54 => 0x3F800000#32 | 55 => 0x00000000#32
  | 56 => 0x00000000#32 | 57 => 0x00000000#32 | 58 => 0xBF800000#32 | 59 => 0x00000000#32 | 60 => 0x00000000#32 | 61 => 0x00000000#32 | 62 => 0x00000000#32 | 63 => 0x00000000#32
  | 64 => 0x3F800000#32 | 65 => 0x00000000#32 | 66 => 0x00000000#32 | 67 => 0xBF800000#32 | 68 => 0x00000000#32 | 69 => 0x00000000#32 | 70 => 0x00000000#32 | 71 => 0x00000000#32
  | _ => 0#32

noncomputable abbrev lit1 : Fin 8 → BitVec 32 := fun
  | 0 => 0x3F800000#32 | 1 => 0x40000000#32 | 2 => 0x40800000#32 | 3 => 0x41000000#32 | 4 => 0x41800000#32 | 5 => 0x42000000#32 | 6 => 0x42800000#32 | 7 => 0x43000000#32
  | _ => 0#32

def fn_pad {F : FTy → Type} [FloatOps F] (arg0 : FVec F S8x1x512x512 .f32) (arg1 : IVec S_ 32) : FVec F S8x1x514x514 .f32 :=
  let v0 : FVec F S_ .f32 := sitofp .f32 arg1
  let v1 : FVec F S8x1x514x514 .f32 := (fun x v => pad S8x1x514x514 ![0, 0, 1, 1] ![0, 0, 1, 1] ![0, 0, 0, 0] x v pads_S8x1x512x512_S8x1x514x514_000_000_110_110 h_S_) arg0 v0
  v1

def fn_where {F : FTy → Type} [FloatOps F] (arg0 : IVec S8x8x512x512 1) (arg1 : FVec F S_ .f32) (arg2 : FVec F S_ .f32) : FVec F S8x8x512x512 .f32 :=
  let v0 : FVec F S8x8x512x512 .f32 := broadcastInDim S8x8x512x512 ![] bcast_S_S8x8x512x512 arg1
  let v1 : FVec F S8x8x512x512 .f32 := broadcastInDim S8x8x512x512 ![] bcast_S_S8x8x512x512 arg2
  let v2 : FVec F S8x8x512x512 .f32 := select arg0 v0 v1
  v2

def fn_round {F : FTy → Type} [FloatOps F] (arg0 : FVec F S8x512x512 .f32) : FVec F S8x512x512 .f32 :=
  let v0 : FVec F S8x512x512 .f32 := Host.roundeven arg0
  v0

def fn_where_0 {F : FTy → Type} [FloatOps F] (arg0 : IVec S_ 1) (arg1 : FVec F S8x1 .f32) (arg2 : FVec F S_ .f32) : FVec F S8x1 .f32 :=
  let v0 : FVec F S_ .f32 := id arg2
  let v1 : FVec F S8x1 .f32 := broadcastInDim S8x1 ![] bcast_S_S8x1 v0
  let v2 : FVec F S8x1 .f32 := (fun p a b => select (broadcastInDim S8x1 ![] bcast_S_S8x1 p) a b) arg0 arg1 v1
  v2

def fn_var {F : FTy → Type} [FloatOps F] (arg0 : FVec F S8x256 .f32) (arg1 : IVec S_ 32) : FVec F S8x1 .f32 :=
  let cst : FVec F S_ .f32 := constant S_ .f32 0x00000000#32
  let v0 : FVec F S8 .f32 := (fun x v => Host.reduceAdd x v reducesTo_S8x256_S8_d1 h_S_) arg0 cst
  let v1 : FVec F S8x1 .f32 := broadcastInDim S8x1 ![0] bcast_S8_S8x1_0 v0
  let cst_0 : FVec F S_ .f32 := constant S_ .f32 0x43800000#32
  let v2 : FVec F S8x1 .f32 := broadcastInDim S8x1 ![] bcast_S_S8x1 cst_0
  let v3 : FVec F S8x1 .f32 := Host.divf v1 v2
  let v4 : FVec F S8x256 .f32 := broadcastInDim S8x256 ![0, 1] bcast_S8x1_S8x256_0_1 v3
  let v5 : FVec F S8x256 .f32 := subf arg0 v4
  let v6 : FVec F S8x256 .f32 := mulf v5 v5
  let v7 : FVec F S_ .f32 := sitofp .f32 arg1
  let cst_1 : FVec F S_ .f32 := constant S_ .f32 0x43800000#32
  let v8 : FVec F S_ .f32 := subf cst_1 v7
  let cst_2 : FVec F S_ .f32 := constant S_ .f32 0x00000000#32
  let v9 : FVec F S8 .f32 := (fun x v => Host.reduceAdd x v reducesTo_S8x256_S8_d1 h_S_) v6 cst_2
  let v10 : FVec F S8x1 .f32 := broadcastInDim S8x1 ![0] bcast_S8_S8x1_0 v9
  let v11 : FVec F S8x1 .f32 := broadcastInDim S8x1 ![] bcast_S_S8x1 v8
  let v12 : FVec F S8x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S8x1 .f32 := fn_where_0 (F := F) v13 v12 cst_4
  v14

def fn_std {F : FTy → Type} [FloatOps F] (arg0 : FVec F S8x256 .f32) (arg1 : IVec S_ 32) : FVec F S8x1 .f32 :=
  let v0 : FVec F S8x1 .f32 := fn_var (F := F) arg0 arg1
  let v1 : FVec F S8x1 .f32 := Host.sqrt v0
  v1

def fn_where_3 {F : FTy → Type} [FloatOps F] (arg0 : IVec S_ 1) (arg1 : FVec F S8x1x1 .f32) (arg2 : FVec F S_ .f32) : FVec F S8x1x1 .f32 :=
  let v0 : FVec F S_ .f32 := id arg2
  let v1 : FVec F S8x1x1 .f32 := broadcastInDim S8x1x1 ![] bcast_S_S8x1x1 v0
  let v2 : FVec F S8x1x1 .f32 := (fun p a b => select (broadcastInDim S8x1x1 ![] bcast_S_S8x1x1 p) a b) arg0 arg1 v1
  v2

def fn_var_2 {F : FTy → Type} [FloatOps F] (arg0 : FVec F S8x512x512 .f32) (arg1 : IVec S_ 32) : FVec F S8x1x1 .f32 :=
  let cst : FVec F S_ .f32 := constant S_ .f32 0x00000000#32
  let v0 : FVec F S8 .f32 := (fun x v => Host.reduceAdd x v reducesTo_S8x512x512_S8_d1_2 h_S_) arg0 cst
  let v1 : FVec F S8x1x1 .f32 := broadcastInDim S8x1x1 ![0] bcast_S8_S8x1x1_0 v0
  let cst_0 : FVec F S_ .f32 := constant S_ .f32 0x48800000#32
  let v2 : FVec F S8x1x1 .f32 := broadcastInDim S8x1x1 ![] bcast_S_S8x1x1 cst_0
  let v3 : FVec F S8x1x1 .f32 := Host.divf v1 v2
  let v4 : FVec F S8x512x512 .f32 := broadcastInDim S8x512x512 ![0, 1, 2] bcast_S8x1x1_S8x512x512_0_1_2 v3
  let v5 : FVec F S8x512x512 .f32 := subf arg0 v4
  let v6 : FVec F S8x512x512 .f32 := mulf v5 v5
  let v7 : FVec F S_ .f32 := sitofp .f32 arg1
  let cst_1 : FVec F S_ .f32 := constant S_ .f32 0x48800000#32
  let v8 : FVec F S_ .f32 := subf cst_1 v7
  let cst_2 : FVec F S_ .f32 := constant S_ .f32 0x00000000#32
  let v9 : FVec F S8 .f32 := (fun x v => Host.reduceAdd x v reducesTo_S8x512x512_S8_d1_2 h_S_) v6 cst_2
  let v10 : FVec F S8x1x1 .f32 := broadcastInDim S8x1x1 ![0] bcast_S8_S8x1x1_0 v9
  let v11 : FVec F S8x1x1 .f32 := broadcastInDim S8x1x1 ![] bcast_S_S8x1x1 v8
  let v12 : FVec F S8x1x1 .f32 := Host.divf v10 v11
  let cst_3 : FVec F S_ .f32 := constant S_ .f32 0x00000000#32
  let v13 : IVec S_ 1 := cmpf .ogt v8 cst_3
  let cst_4 : FVec F S_ .f32 := constant S_ .f32 0x7FC00000#32
  let v14 : FVec F S8x1x1 .f32 := fn_where_3 (F := F) v13 v12 cst_4
  v14

def fn_std_1 {F : FTy → Type} [FloatOps F] (arg0 : FVec F S8x512x512 .f32) (arg1 : IVec S_ 32) : FVec F S8x1x1 .f32 :=
  let v0 : FVec F S8x1x1 .f32 := fn_var_2 (F := F) arg0 arg1
  let v1 : FVec F S8x1x1 .f32 := Host.sqrt v0
  v1

def fn_part6 {F : FTy → Type} [FloatOps F] (main_v119 : IVec S_ 1) (main_v121 : IVec S8x1x1 1) : IVec S_ 1 :=
  let main_c_20 : IVec S_ 1 := constantI S_ 1 1#1
  let main_v122 : IVec S_ 1 := (fun x v => Host.reduce IntOp.andi x v reducesTo_S8x1x1_S_d0_1_2 h_S_) main_v121 main_c_20
  let main_v123 : IVec S_ 1 := andi main_v119 main_v122
  main_v123

def fn_part5 {F : FTy → Type} [FloatOps F] (main_v91 : FVec F S8x512x512 .f32) (main_v94 : IVec S8x262144 32) (main_v95 : IVec S8x256 32) (main_v102 : IVec S8x1 32) (main_v104 : IVec S8x262144 1) : IVec S_ 1 :=
  let main_c_13 : IVec S_ 32 := constantI S_ 32 256#32
  let main_v105 : IVec S8x262144 32 := broadcastInDim S8x262144 ![] bcast_S_S8x262144 main_c_13
  let main_v106 : IVec S8x262144 32 := addi main_v94 main_v105
  let main_v107 : IVec S8x262144 32 := select main_v104 main_v106 main_v94
  let main_v108 : IVec S8x262144 32 := broadcastInDim S8x262144 ![0, 1] bcast_S8x1_S8x262144_0_1 main_v102
  let main_v109 : IVec S8x262144x1 32 := broadcastInDim S8x262144x1 ![0, 1] bcast_S8x262144_S8x262144x1_0_1 main_v108
  let main_v110 : IVec S8x262144x1 32 := broadcastInDim S8x262144x1 ![0, 1] bcast_S8x262144_S8x262144x1_0_1 main_v107
  let main_v111 : IVec S8x262144x2 32 := (fun a b => concatenate S8x262144x2 2 [⟨S8x262144x1, a⟩, ⟨S8x262144x1, b⟩] concatenates_S8x262144x1_S8x262144x1_S8x262144x2_d2) main_v109 main_v110
  let main_c_14 : IVec S_ 32 := constantI S_ 32 1#32
  let main_v112 : IVec S8x262144 32 := broadcastInDim S8x262144 ![] bcast_S_S8x262144 main_c_14
  let main_v113 : IVec S8x256 32 := (fun x i u => Host.scatter scatter_S8x256_S8x262144x2_S8x262144_n_01_01_2 IntOp.addi x i u) main_v95 main_v111 main_v112
  let main_v114 : FVec F S8x256 .f32 := sitofp .f32 main_v113
  let main_c_15 : IVec S_ 32 := constantI S_ 32 1#32
  let main_v115 : FVec F S8x1 .f32 := fn_std (F := F) main_v114 main_c_15
  let main_c_16 : IVec S_ 32 := constantI S_ 32 1#32
  let main_v116 : FVec F S8x1x1 .f32 := fn_std_1 (F := F) main_v91 main_c_16
  let main_cst_17 : FVec F S_ .f32 := constant S_ .f32 0x00000000#32
  let main_v117 : FVec F S8x1 .f32 := broadcastInDim S8x1 ![] bcast_S_S8x1 main_cst_17
  let main_v118 : IVec S8x1 1 := cmpf .ogt main_v115 main_v117
  let main_c_18 : IVec S_ 1 := constantI S_ 1 1#1
  let main_v119 : IVec S_ 1 := (fun x v => Host.reduce IntOp.andi x v reducesTo_S8x1_S_d0_1 h_S_) main_v118 main_c_18
  let main_cst_19 : FVec F S_ .f32 := constant S_ .f32 0x00000000#32
  let main_v120 : FVec F S8x1x1 .f32 := broadcastInDim S8x1x1 ![] bcast_S_S8x1x1 main_cst_19
  let main_v121 : IVec S8x1x1 1 := cmpf .ogt main_v116 main_v120
  fn_part6 (F := F) main_v119 main_v121

def fn_part4 {F : FTy → Type} [FloatOps F] (main_cst_0 : FVec F S1x8x1x1 .f32) (main_v86 : IVec S8x8x512x512 1) (main_cst_6 : FVec F S_ .f32) : IVec S_ 1 :=
  let main_cst_7 : FVec F S_ .f32 := constant S_ .f32 0x00000000#32
  let main_v87 : FVec F S8x8x512x512 .f32 := fn_where (F := F) main_v86 main_cst_6 main_cst_7
  let main_v88 : FVec F S8x8x512x512 .f32 := id main_v87
  let main_v89 : FVec F S8x8x512x512 .f32 := broadcastInDim S8x8x512x512 ![0, 1, 2, 3] bcast_S1x8x1x1_S8x8x512x512_0_1_2_3 main_cst_0
  let main_v90 : FVec F S8x8x512x512 .f32 := mulf main_v88 main_v89
  let main_cst_8 : FVec F S_ .f32 := constant S_ .f32 0x00000000#32
  let main_v91 : FVec F S8x512x512 .f32 := (fun x v => Host.reduceAdd x v reducesTo_S8x8x512x512_S8x512x512_d1 h_S_) main_v90 main_cst_8
  let main_v92 : FVec F S8x512x512 .f32 := fn_round (F := F) main_v91
  let main_v93 : IVec S8x512x512 32 := fptosi 32 main_v92
  let main_v94 : IVec S8x262144 32 := shapeCast S8x262144 main_v93 shapeCasts_S8x512x512_S8x262144
  let main_c_9 : IVec S_ 32 := constantI S_ 32 0#32
  let main_v95 : IVec S8x256 32 := broadcastInDim S8x256 ![] bcast_S_S8x256 main_c_9
  let main_v96 : IVec S8 32 := iotaInDim S8 32 0
  let main_v97 : IVec S8x1 32 := broadcastInDim S8x1 ![0] bcast_S8_S8x1_0 main_v96
  let main_c_10 : IVec S_ 32 := constantI S_ 32 0#32
  let main_v98 : IVec S8x1 32 := broadcastInDim S8x1 ![] bcast_S_S8x1 main_c_10
  let main_v99 : IVec S8x1 1 := cmpi .slt main_v97 main_v98
  let main_c_11 : IVec S_ 32 := constantI S_ 32 8#32
  let main_v100 : IVec S8x1 32 := broadcastInDim S8x1 ![] bcast_S_S8x1 main_c_11
  let main_v101 : IVec S8x1 32 := addi main_v97 main_v100
  let main_v102 : IVec S8x1 32 := select main_v99 main_v101 main_v97
  let main_c_12 : IVec S_ 32 := constantI S_ 32 0#32
  let main_v103 : IVec S8x262144 32 := broadcastInDim S8x262144 ![] bcast_S_S8x262144 main_c_12
  let main_v104 : IVec S8x262144 1 := cmpi .slt main_v94 main_v103
  fn_part5 (F := F) main_v91 main_v94 main_v95 main_v102 main_v104

def fn_part3 {F : FTy → Type} [FloatOps F] (main_cst : FVec F S8x1x3x3 .f32) (main_cst_0 : FVec F S1x8x1x1 .f32) (main_v11 : FVec F S8x1x514x514 .f32) (main_v60 : FVec F S8x8x512x512 .f32) (main_v61 : FVec F S8x1x512x512 .f32) (main_v64 : FVec F S1x8x1x1 .f32) : IVec S_ 1 :=
  let main_v65 : FVec F S8x8x512x512 .f32 := broadcastInDim S8x8x512x512 ![0, 1, 2, 3] bcast_S8x1x512x512_S8x8x512x512_0_1_2_3 main_v61
  let main_v66 : FVec F S8x8x512x512 .f32 := broadcastInDim S8x8x512x512 ![0, 1, 2, 3] bcast_S1x8x1x1_S8x8x512x512_0_1_2_3 main_v64
  let main_v67 : FVec F S8x8x512x512 .f32 := mulf main_v65 main_v66
  let main_v68 : FVec F S8x8x512x512 .f32 := addf main_v60 main_v67
  let main_v69 : FVec F S8x1x512x512 .f32 := (extractStridedSlice S8x1x512x512 ![0, 0, 2, 1] · slices_S8x1x514x514_S8x1x512x512_0_0_2_1) main_v11
  let main_v70 : FVec F S8x1x1x1 .f32 := (extractStridedSlice S8x1x1x1 ![0, 0, 2, 1] · slices_S8x1x3x3_S8x1x1x1_0_0_2_1) main_cst
  let main_v71 : FVec F S8 .f32 := shapeCast S8 main_v70 shapeCasts_S8x1x1x1_S8
  let main_v72 : FVec F S1x8x1x1 .f32 := broadcastInDim S1x8x1x1 ![1] bcast_S8_S1x8x1x1_1 main_v71
  let main_v73 : FVec F S8x8x512x512 .f32 := broadcastInDim S8x8x512x512 ![0, 1, 2, 3] bcast_S8x1x512x512_S8x8x512x512_0_1_2_3 main_v69
  let main_v74 : FVec F S8x8x512x512 .f32 := broadcastInDim S8x8x512x512 ![0, 1, 2, 3] bcast_S1x8x1x1_S8x8x512x512_0_1_2_3 main_v72
  let main_v75 : FVec F S8x8x512x512 .f32 := mulf main_v73 main_v74
  let main_v76 : FVec F S8x8x512x512 .f32 := addf main_v68 main_v75
  let main_v77 : FVec F S8x1x512x512 .f32 := (extractStridedSlice S8x1x512x512 ![0, 0, 2, 2] · slices_S8x1x514x514_S8x1x512x512_0_0_2_2) main_v11
  let main_v78 : FVec F S8x1x1x1 .f32 := (extractStridedSlice S8x1x1x1 ![0, 0, 2, 2] · slices_S8x1x3x3_S8x1x1x1_0_0_2_2) main_cst
  let main_v79 : FVec F S8 .f32 := shapeCast S8 main_v78 shapeCasts_S8x1x1x1_S8
  let main_v80 : FVec F S1x8x1x1 .f32 := broadcastInDim S1x8x1x1 ![1] bcast_S8_S1x8x1x1_1 main_v79
  let main_v81 : FVec F S8x8x512x512 .f32 := broadcastInDim S8x8x512x512 ![0, 1, 2, 3] bcast_S8x1x512x512_S8x8x512x512_0_1_2_3 main_v77
  let main_v82 : FVec F S8x8x512x512 .f32 := broadcastInDim S8x8x512x512 ![0, 1, 2, 3] bcast_S1x8x1x1_S8x8x512x512_0_1_2_3 main_v80
  let main_v83 : FVec F S8x8x512x512 .f32 := mulf main_v81 main_v82
  let main_v84 : FVec F S8x8x512x512 .f32 := addf main_v76 main_v83
  let main_cst_5 : FVec F S_ .f32 := constant S_ .f32 0x00000000#32
  let main_v85 : FVec F S8x8x512x512 .f32 := broadcastInDim S8x8x512x512 ![] bcast_S_S8x8x512x512 main_cst_5
  let main_v86 : IVec S8x8x512x512 1 := cmpf .oge main_v84 main_v85
  let main_cst_6 : FVec F S_ .f32 := constant S_ .f32 0x3F800000#32
  fn_part4 (F := F) main_cst_0 main_v86 main_cst_6

def fn_part2 {F : FTy → Type} [FloatOps F] (main_cst : FVec F S8x1x3x3 .f32) (main_cst_0 : FVec F S1x8x1x1 .f32) (main_v11 : FVec F S8x1x514x514 .f32) (main_v36 : FVec F S8x8x512x512 .f32) (main_v37 : FVec F S8x1x512x512 .f32) (main_v40 : FVec F S1x8x1x1 .f32) : IVec S_ 1 :=
  let main_v41 : FVec F S8x8x512x512 .f32 := broadcastInDim S8x8x512x512 ![0, 1, 2, 3] bcast_S8x1x512x512_S8x8x512x512_0_1_2_3 main_v37
  let main_v42 : FVec F S8x8x512x512 .f32 := broadcastInDim S8x8x512x512 ![0, 1, 2, 3] bcast_S1x8x1x1_S8x8x512x512_0_1_2_3 main_v40
  let main_v43 : FVec F S8x8x512x512 .f32 := mulf main_v41 main_v42
  let main_v44 : FVec F S8x8x512x512 .f32 := addf main_v36 main_v43
  let main_v45 : FVec F S8x1x512x512 .f32 := (extractStridedSlice S8x1x512x512 ![0, 0, 1, 1] · slices_S8x1x514x514_S8x1x512x512_0_0_1_1) main_v11
  let main_v46 : FVec F S8x1x1x1 .f32 := (extractStridedSlice S8x1x1x1 ![0, 0, 1, 1] · slices_S8x1x3x3_S8x1x1x1_0_0_1_1) main_cst
  let main_v47 : FVec F S8 .f32 := shapeCast S8 main_v46 shapeCasts_S8x1x1x1_S8
  let main_v48 : FVec F S1x8x1x1 .f32 := broadcastInDim S1x8x1x1 ![1] bcast_S8_S1x8x1x1_1 main_v47
  let main_v49 : FVec F S8x8x512x512 .f32 := broadcastInDim S8x8x512x512 ![0, 1, 2, 3] bcast_S8x1x512x512_S8x8x512x512_0_1_2_3 main_v45
  let main_v50 : FVec F S8x8x512x512 .f32 := broadcastInDim S8x8x512x512 ![0, 1, 2, 3] bcast_S1x8x1x1_S8x8x512x512_0_1_2_3 main_v48
  let main_v51 : FVec F S8x8x512x512 .f32 := mulf main_v49 main_v50
  let main_v52 : FVec F S8x8x512x512 .f32 := addf main_v44 main_v51
  let main_v53 : FVec F S8x1x512x512 .f32 := (extractStridedSlice S8x1x512x512 ![0, 0, 1, 2] · slices_S8x1x514x514_S8x1x512x512_0_0_1_2) main_v11
  let main_v54 : FVec F S8x1x1x1 .f32 := (extractStridedSlice S8x1x1x1 ![0, 0, 1, 2] · slices_S8x1x3x3_S8x1x1x1_0_0_1_2) main_cst
  let main_v55 : FVec F S8 .f32 := shapeCast S8 main_v54 shapeCasts_S8x1x1x1_S8
  let main_v56 : FVec F S1x8x1x1 .f32 := broadcastInDim S1x8x1x1 ![1] bcast_S8_S1x8x1x1_1 main_v55
  let main_v57 : FVec F S8x8x512x512 .f32 := broadcastInDim S8x8x512x512 ![0, 1, 2, 3] bcast_S8x1x512x512_S8x8x512x512_0_1_2_3 main_v53
  let main_v58 : FVec F S8x8x512x512 .f32 := broadcastInDim S8x8x512x512 ![0, 1, 2, 3] bcast_S1x8x1x1_S8x8x512x512_0_1_2_3 main_v56
  let main_v59 : FVec F S8x8x512x512 .f32 := mulf main_v57 main_v58
  let main_v60 : FVec F S8x8x512x512 .f32 := addf main_v52 main_v59
  let main_v61 : FVec F S8x1x512x512 .f32 := (extractStridedSlice S8x1x512x512 ![0, 0, 2, 0] · slices_S8x1x514x514_S8x1x512x512_0_0_2_0) main_v11
  let main_v62 : FVec F S8x1x1x1 .f32 := (extractStridedSlice S8x1x1x1 ![0, 0, 2, 0] · slices_S8x1x3x3_S8x1x1x1_0_0_2_0) main_cst
  let main_v63 : FVec F S8 .f32 := shapeCast S8 main_v62 shapeCasts_S8x1x1x1_S8
  let main_v64 : FVec F S1x8x1x1 .f32 := broadcastInDim S1x8x1x1 ![1] bcast_S8_S1x8x1x1_1 main_v63
  fn_part3 (F := F) main_cst main_cst_0 main_v11 main_v60 main_v61 main_v64

def fn_part1 {F : FTy → Type} [FloatOps F] (main_cst : FVec F S8x1x3x3 .f32) (main_cst_0 : FVec F S1x8x1x1 .f32) (main_v11 : FVec F S8x1x514x514 .f32) (main_v16 : FVec F S8x8x512x512 .f32) (main_v17 : FVec F S8x8x512x512 .f32) : IVec S_ 1 :=
  let main_v18 : FVec F S8x8x512x512 .f32 := mulf main_v16 main_v17
  let main_cst_4 : FVec F S_ .f32 := constant S_ .f32 0x00000000#32
  let main_v19 : FVec F S8x8x512x512 .f32 := broadcastInDim S8x8x512x512 ![] bcast_S_S8x8x512x512 main_cst_4
  let main_v20 : FVec F S8x8x512x512 .f32 := addf main_v19 main_v18
  let main_v21 : FVec F S8x1x512x512 .f32 := (extractStridedSlice S8x1x512x512 ![0, 0, 0, 1] · slices_S8x1x514x514_S8x1x512x512_0_0_0_1) main_v11
  let main_v22 : FVec F S8x1x1x1 .f32 := (extractStridedSlice S8x1x1x1 ![0, 0, 0, 1] · slices_S8x1x3x3_S8x1x1x1_0_0_0_1) main_cst
  let main_v23 : FVec F S8 .f32 := shapeCast S8 main_v22 shapeCasts_S8x1x1x1_S8
  let main_v24 : FVec F S1x8x1x1 .f32 := broadcastInDim S1x8x1x1 ![1] bcast_S8_S1x8x1x1_1 main_v23
  let main_v25 : FVec F S8x8x512x512 .f32 := broadcastInDim S8x8x512x512 ![0, 1, 2, 3] bcast_S8x1x512x512_S8x8x512x512_0_1_2_3 main_v21
  let main_v26 : FVec F S8x8x512x512 .f32 := broadcastInDim S8x8x512x512 ![0, 1, 2, 3] bcast_S1x8x1x1_S8x8x512x512_0_1_2_3 main_v24
  let main_v27 : FVec F S8x8x512x512 .f32 := mulf main_v25 main_v26
  let main_v28 : FVec F S8x8x512x512 .f32 := addf main_v20 main_v27
  let main_v29 : FVec F S8x1x512x512 .f32 := (extractStridedSlice S8x1x512x512 ![0, 0, 0, 2] · slices_S8x1x514x514_S8x1x512x512_0_0_0_2) main_v11
  let main_v30 : FVec F S8x1x1x1 .f32 := (extractStridedSlice S8x1x1x1 ![0, 0, 0, 2] · slices_S8x1x3x3_S8x1x1x1_0_0_0_2) main_cst
  let main_v31 : FVec F S8 .f32 := shapeCast S8 main_v30 shapeCasts_S8x1x1x1_S8
  let main_v32 : FVec F S1x8x1x1 .f32 := broadcastInDim S1x8x1x1 ![1] bcast_S8_S1x8x1x1_1 main_v31
  let main_v33 : FVec F S8x8x512x512 .f32 := broadcastInDim S8x8x512x512 ![0, 1, 2, 3] bcast_S8x1x512x512_S8x8x512x512_0_1_2_3 main_v29
  let main_v34 : FVec F S8x8x512x512 .f32 := broadcastInDim S8x8x512x512 ![0, 1, 2, 3] bcast_S1x8x1x1_S8x8x512x512_0_1_2_3 main_v32
  let main_v35 : FVec F S8x8x512x512 .f32 := mulf main_v33 main_v34
  let main_v36 : FVec F S8x8x512x512 .f32 := addf main_v28 main_v35
  let main_v37 : FVec F S8x1x512x512 .f32 := (extractStridedSlice S8x1x512x512 ![0, 0, 1, 0] · slices_S8x1x514x514_S8x1x512x512_0_0_1_0) main_v11
  let main_v38 : FVec F S8x1x1x1 .f32 := (extractStridedSlice S8x1x1x1 ![0, 0, 1, 0] · slices_S8x1x3x3_S8x1x1x1_0_0_1_0) main_cst
  let main_v39 : FVec F S8 .f32 := shapeCast S8 main_v38 shapeCasts_S8x1x1x1_S8
  let main_v40 : FVec F S1x8x1x1 .f32 := broadcastInDim S1x8x1x1 ![1] bcast_S8_S1x8x1x1_1 main_v39
  fn_part2 (F := F) main_cst main_cst_0 main_v11 main_v36 main_v37 main_v40

def fn {F : FTy → Type} [FloatOps F] (main_arg0 : FVec F S8x3x512x512 .f32) : IVec S_ 1 :=
  let main_cst : FVec F S8x1x3x3 .f32 := fun i => FloatOps.ofBits .f32 (lit0 (S8x1x3x3.rowMajor i))
  let main_cst_0 : FVec F S1x8x1x1 .f32 := fun i => FloatOps.ofBits .f32 (lit1 (S1x8x1x1.rowMajor i))
  let main_v0 : FVec F S8x1x512x512 .f32 := (extractStridedSlice S8x1x512x512 ![0, 0, 0, 0] · slices_S8x3x512x512_S8x1x512x512_0_0_0_0) main_arg0
  let main_cst_1 : FVec F S_ .f32 := constant S_ .f32 0x3E991687#32
  let main_v1 : FVec F S8x1x512x512 .f32 := broadcastInDim S8x1x512x512 ![] bcast_S_S8x1x512x512 main_cst_1
  let main_v2 : FVec F S8x1x512x512 .f32 := mulf main_v1 main_v0
  let main_v3 : FVec F S8x1x512x512 .f32 := (extractStridedSlice S8x1x512x512 ![0, 1, 0, 0] · slices_S8x3x512x512_S8x1x512x512_0_1_0_0) main_arg0
  let main_cst_2 : FVec F S_ .f32 := constant S_ .f32 0x3F1645A2#32
  let main_v4 : FVec F S8x1x512x512 .f32 := broadcastInDim S8x1x512x512 ![] bcast_S_S8x1x512x512 main_cst_2
  let main_v5 : FVec F S8x1x512x512 .f32 := mulf main_v4 main_v3
  let main_v6 : FVec F S8x1x512x512 .f32 := addf main_v2 main_v5
  let main_v7 : FVec F S8x1x512x512 .f32 := (extractStridedSlice S8x1x512x512 ![0, 2, 0, 0] · slices_S8x3x512x512_S8x1x512x512_0_2_0_0) main_arg0
  let main_cst_3 : FVec F S_ .f32 := constant S_ .f32 0x3DE978D5#32
  let main_v8 : FVec F S8x1x512x512 .f32 := broadcastInDim S8x1x512x512 ![] bcast_S_S8x1x512x512 main_cst_3
  let main_v9 : FVec F S8x1x512x512 .f32 := mulf main_v8 main_v7
  let main_v10 : FVec F S8x1x512x512 .f32 := addf main_v6 main_v9
  let main_c : IVec S_ 32 := constantI S_ 32 0#32
  let main_v11 : FVec F S8x1x514x514 .f32 := fn_pad (F := F) main_v10 main_c
  let main_v12 : FVec F S8x1x512x512 .f32 := (extractStridedSlice S8x1x512x512 ![0, 0, 0, 0] · slices_S8x1x514x514_S8x1x512x512_0_0_0_0) main_v11
  let main_v13 : FVec F S8x1x1x1 .f32 := (extractStridedSlice S8x1x1x1 ![0, 0, 0, 0] · slices_S8x1x3x3_S8x1x1x1_0_0_0_0) main_cst
  let main_v14 : FVec F S8 .f32 := shapeCast S8 main_v13 shapeCasts_S8x1x1x1_S8
  let main_v15 : FVec F S1x8x1x1 .f32 := broadcastInDim S1x8x1x1 ![1] bcast_S8_S1x8x1x1_1 main_v14
  let main_v16 : FVec F S8x8x512x512 .f32 := broadcastInDim S8x8x512x512 ![0, 1, 2, 3] bcast_S8x1x512x512_S8x8x512x512_0_1_2_3 main_v12
  let main_v17 : FVec F S8x8x512x512 .f32 := broadcastInDim S8x8x512x512 ![0, 1, 2, 3] bcast_S1x8x1x1_S8x8x512x512_0_1_2_3 main_v15
  fn_part1 (F := F) main_cst main_cst_0 main_v11 main_v16 main_v17
-- ==== Kernel.lean ====
abbrev S8x3x512x512 : Shape := ⟨4, ![8, 3, 512, 512]⟩
abbrev S8x1x256 : Shape := ⟨3, ![8, 1, 256]⟩
abbrev S8x1x512x512 : Shape := ⟨4, ![8, 1, 512, 512]⟩
abbrev S1x3x512x512 : Shape := ⟨4, ![1, 3, 512, 512]⟩
abbrev S1x1x256 : Shape := ⟨3, ![1, 1, 256]⟩
abbrev S1x1x512x512 : Shape := ⟨4, ![1, 1, 512, 512]⟩
abbrev S3x512x512 : Shape := ⟨3, ![3, 512, 512]⟩
abbrev S1x512x512 : Shape := ⟨3, ![1, 512, 512]⟩
abbrev S512x512 : Shape := ⟨2, ![512, 512]⟩
abbrev S1x512 : Shape := ⟨2, ![1, 512]⟩
abbrev S513x512 : Shape := ⟨2, ![513, 512]⟩
abbrev S514x512 : Shape := ⟨2, ![514, 512]⟩
abbrev S514x1 : Shape := ⟨2, ![514, 1]⟩
abbrev S514x513 : Shape := ⟨2, ![514, 513]⟩
abbrev S514x514 : Shape := ⟨2, ![514, 514]⟩
abbrev S1 : Shape := ⟨1, ![1]⟩
abbrev S1x1x1 : Shape := ⟨3, ![1, 1, 1]⟩
abbrev S1x256 : Shape := ⟨2, ![1, 256]⟩
abbrev S8x256 : Shape := ⟨2, ![8, 256]⟩

abbrev nBuf : Space → Nat
  | .hbm => 4
  | .vmem => 6
  | .smem => 0
  | _ => 0

abbrev bufTy : (tb : Table) → Fin (tcTables nBuf tb) → BufTy
  | .hbm, ⟨0, _⟩ => ⟨S8x3x512x512, .f32⟩
  | .hbm, ⟨1, _⟩ => ⟨S8x1x256, .f32⟩
  | .hbm, ⟨2, _⟩ => ⟨S8x1x512x512, .f32⟩
  | .hbm, ⟨3, _⟩ => ⟨S8x256, .f32⟩
  | .local _ .vmem, ⟨0, _⟩ => ⟨S1x3x512x512, .f32⟩
  | .local _ .vmem, ⟨1, _⟩ => ⟨S1x3x512x512, .f32⟩
  | .local _ .vmem, ⟨2, _⟩ => ⟨S1x1x256, .f32⟩
  | .local _ .vmem, ⟨3, _⟩ => ⟨S1x1x256, .f32⟩
  | .local _ .vmem, ⟨4, _⟩ => ⟨S1x1x512x512, .f32⟩
  | .local _ .vmem, ⟨5, _⟩ => ⟨S1x1x512x512, .f32⟩
  | _, _ => ⟨S8x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_39 : BitVec 32 := 0#32
  let c256_i32 : BitVec 32 := 256#32
  let v115 : BitVec 32 := Scalar.addi c0_i32_39 c256_i32
  let c1_i32 : BitVec 32 := 1#32
  ⟨c0_i32_39, v115, c1_i32⟩
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8x3x512x512 : Shape := ⟨4, ![8, 3, 512, 512]⟩
abbrev S8x1x3x3 : Shape := ⟨4, ![8, 1, 3, 3]⟩
abbrev S1x8x1x1 : Shape := ⟨4, ![1, 8, 1, 1]⟩
abbrev S8x1x512x512 : Shape := ⟨4, ![8, 1, 512, 512]⟩
abbrev S_ : Shape := ⟨0, ![]⟩
abbrev S8x1x514x514 : Shape := ⟨4, ![8, 1, 514, 514]⟩
abbrev S8x1x1x1 : Shape := ⟨4, ![8, 1, 1, 1]⟩
abbrev S8 : Shape := ⟨1, ![8]⟩
abbrev S8x8x512x512 : Shape := ⟨4, ![8, 8, 512, 512]⟩
abbrev S8x512x512 : Shape := ⟨3, ![8, 512, 512]⟩
abbrev S8x262144 : Shape := ⟨2, ![8, 262144]⟩
abbrev S8x256 : Shape := ⟨2, ![8, 256]⟩
abbrev S8x1 : Shape := ⟨2, ![8, 1]⟩
abbrev S8x262144x1 : Shape := ⟨3, ![8, 262144, 1]⟩
abbrev S8x262144x2 : Shape := ⟨3, ![8, 262144, 2]⟩
abbrev S8x1x1 : Shape := ⟨3, ![8, 1, 1]⟩

abbrev nBuf : Space → Nat
  | .hbm => 207
  | .vmem => 0
  | .smem => 0
  | _ => 0

abbrev hbmTy0_0 (i : Nat) : BufTy := match i % 128 with
  | 0 => ⟨S8x3x512x512, .f32⟩
  | 1 => ⟨S8x1x3x3, .f32⟩
  | 2 => ⟨S1x8x1x1, .f32⟩
  | 3 => ⟨S8x1x512x512, .f32⟩
  | 4 => ⟨S_, .f32⟩
  | 5 => ⟨S8x1x512x512, .f32⟩
  | 6 => ⟨S8x1x512x512, .f32⟩
  | 7 => ⟨S8x1x512x512, .f32⟩
  | 8 => ⟨S_, .f32⟩
  | 9 => ⟨S8x1x512x512, .f32⟩
  | 10 => ⟨S8x1x512x512, .f32⟩
  | 11 => ⟨S8x1x512x512, .f32⟩
  | 12 => ⟨S8x1x512x512, .f32⟩
  | 13 => ⟨S_, .f32⟩
  | 14 => ⟨S8x1x512x512, .f32⟩
  | 15 => ⟨S8x1x512x512, .f32⟩
  | 16 => ⟨S8x1x512x512, .f32⟩
  | 17 => ⟨S_, .i32⟩
  | 18 => ⟨S_, .f32⟩
  | 19 => ⟨S8x1x514x514, .f32⟩
  | 20 => ⟨S8x1x512x512, .f32⟩
  | 21 => ⟨S8x1x1x1, .f32⟩
  | 22 => ⟨S8, .f32⟩
  | 23 => ⟨S1x8x1x1, .f32⟩
  | 24 => ⟨S8x8x512x512, .f32⟩
  | 25 => ⟨S8x8x512x512, .f32⟩
  | 26 => ⟨S8x8x512x512, .f32⟩
  | 27 => ⟨S_, .f32⟩
  | 28 => ⟨S8x8x512x512, .f32⟩
  | 29 => ⟨S8x8x512x512, .f32⟩
  | 30 => ⟨S8x1x512x512, .f32⟩
  | 31 => ⟨S8x1x1x1, .f32⟩
  | 32 => ⟨S8, .f32⟩
  | 33 => ⟨S1x8x1x1, .f32⟩
  | 34 => ⟨S8x8x512x512, .f32⟩
  | 35 => ⟨S8x8x512x512, .f32⟩
  | 36 => ⟨S8x8x512x512, .f32⟩
  | 37 => ⟨S8x8x512x512, .f32⟩
  | 38 => ⟨S8x1x512x512, .f32⟩
  | 39 => ⟨S8x1x1x1, .f32⟩
  | 40 => ⟨S8, .f32⟩
  | 41 => ⟨S1x8x1x1, .f32⟩
  | 42 => ⟨S8x8x512x512, .f32⟩
  | 43 => ⟨S8x8x512x512, .f32⟩
  | 44 => ⟨S8x8x512x512, .f32⟩
  | 45 => ⟨S8x8x512x512, .f32⟩
  | 46 => ⟨S8x1x512x512, .f32⟩
  | 47 => ⟨S8x1x1x1, .f32⟩
  | 48 => ⟨S8, .f32⟩
  | 49 => ⟨S1x8x1x1, .f32⟩
  | 50 => ⟨S8x8x512x512, .f32⟩
  | 51 => ⟨S8x8x512x512, .f32⟩
  | 52 => ⟨S8x8x512x512, .f32⟩
  | 53 => ⟨S8x8x512x512, .f32⟩
  | 54 => ⟨S8x1x512x512, .f32⟩
  | 55 => ⟨S8x1x1x1, .f32⟩
  | 56 => ⟨S8, .f32⟩
  | 57 => ⟨S1x8x1x1, .f32⟩
  | 58 => ⟨S8x8x512x512, .f32⟩
  | 59 => ⟨S8x8x512x512, .f32⟩
  | 60 => ⟨S8x8x512x512, .f32⟩
  | 61 => ⟨S8x8x512x512, .f32⟩
  | 62 => ⟨S8x1x512x512, .f32⟩
  | 63 => ⟨S8x1x1x1, .f32⟩
  | 64 => ⟨S8, .f32⟩
  | 65 => ⟨S1x8x1x1, .f32⟩
  | 66 => ⟨S8x8x512x512, .f32⟩
  | 67 => ⟨S8x8x512x512, .f32⟩
  | 68 => ⟨S8x8x512x512, .f32⟩
  | 69 => ⟨S8x8x512x512, .f32⟩
  | 70 => ⟨S8x1x512x512, .f32⟩
  | 71 => ⟨S8x1x1x1, .f32⟩
  | 72 => ⟨S8, .f32⟩
  | 73 => ⟨S1x8x1x1, .f32⟩
  | 74 => ⟨S8x8x512x512, .f32⟩
  | 75 => ⟨S8x8x512x512, .f32⟩
  | 76 => ⟨S8x8x512x512, .f32⟩
  | 77 => ⟨S8x8x512x512, .f32⟩
  | 78 => ⟨S8x1x512x512, .f32⟩
  | 79 => ⟨S8x1x1x1, .f32⟩
  | 80 => ⟨S8, .f32⟩
  | 81 => ⟨S1x8x1x1, .f32⟩
  | 82 => ⟨S8x8x512x512, .f32⟩
  | 83 => ⟨S8x8x512x512, .f32⟩
  | 84 => ⟨S8x8x512x512, .f32⟩
  | 85 => ⟨S8x8x512x512, .f32⟩
  | 86 => ⟨S8x1x512x512, .f32⟩
  | 87 => ⟨S8x1x1x1, .f32⟩
  | 88 => ⟨S8, .f32⟩
  | 89 => ⟨S1x8x1x1, .f32⟩
  | 90 => ⟨S8x8x512x512, .f32⟩
  | 91 => ⟨S8x8x512x512, .f32⟩
  | 92 => ⟨S8x8x512x512, .f32⟩
  | 93 => ⟨S8x8x512x512, .f32⟩
  | 94 => ⟨S_, .f32⟩
  | 95 => ⟨S8x8x512x512, .f32⟩
  | 96 => ⟨S8x8x512x512, .i1⟩
  | 97 => ⟨S_, .f32⟩
  | 98 => ⟨S_, .f32⟩
  | 99 => ⟨S8x8x512x512, .f32⟩
  | 100 => ⟨S8x8x512x512, .f32⟩
  | 101 => ⟨S8x8x512x512, .f32⟩
  | 102 => ⟨S8x8x512x512, .f32⟩
  | 103 => ⟨S8x8x512x512, .f32⟩
  | 104 => ⟨S8x8x512x512, .f32⟩
  | 105 => ⟨S_, .f32⟩
  | 106 => ⟨S8x512x512, .f32⟩
  | 107 => ⟨S8x512x512, .f32⟩
  | 108 => ⟨S8x512x512, .i32⟩
  | 109 => ⟨S8x262144, .i32⟩
  | 110 => ⟨S_, .i32⟩
  | 111 => ⟨S8x256, .i32⟩
  | 112 => ⟨S8, .i32⟩
  | 113 => ⟨S8x1, .i32⟩
  | 114 => ⟨S_, .i32⟩
  | 115 => ⟨S8x1, .i32⟩
  | 116 => ⟨S8x1, .i1⟩
  | 117 => ⟨S_, .i32⟩
  | 118 => ⟨S8x1, .i32⟩
  | 119 => ⟨S8x1, .i32⟩
  | 120 => ⟨S8x1, .i32⟩
  | 121 => ⟨S_, .i32⟩
  | 122 => ⟨S8x262144, .i32⟩
  | 123 => ⟨S8x262144, .i1⟩
  | 124 => ⟨S_, .i32⟩
  | 125 => ⟨S8x262144, .i32⟩
  | 126 => ⟨S8x262144, .i32⟩
  | 127 => ⟨S8x262144, .i32⟩
  | _ => ⟨S8x3x512x512, .f32⟩

abbrev hbmTy0_1 (i : Nat) : BufTy := match i % 128 with
  | 0 => ⟨S8x262144, .i32⟩
  | 1 => ⟨S8x262144x1, .i32⟩
  | 2 => ⟨S8x262144x1, .i32⟩
  | 3 => ⟨S8x262144x2, .i32⟩
  | 4 => ⟨S_, .i32⟩
  | 5 => ⟨S8x262144, .i32⟩
  | 6 => ⟨S8x256, .i32⟩
  | 7 => ⟨S8x256, .f32⟩
  | 8 => ⟨S_, .f32⟩
  | 9 => ⟨S8, .f32⟩
  | 10 => ⟨S8x1, .f32⟩
  | 11 => ⟨S_, .f32⟩
  | 12 => ⟨S8x1, .f32⟩
  | 13 => ⟨S8x1, .f32⟩
  | 14 => ⟨S_, .i32⟩
  | 15 => ⟨S_, .f32⟩
  | 16 => ⟨S8, .f32⟩
  | 17 => ⟨S8x1, .f32⟩
  | 18 => ⟨S_, .f32⟩
  | 19 => ⟨S8x1, .f32⟩
  | 20 => ⟨S8x1, .f32⟩
  | 21 => ⟨S8x256, .f32⟩
  | 22 => ⟨S8x256, .f32⟩
  | 23 => ⟨S8x256, .f32⟩
  | 24 => ⟨S_, .f32⟩
  | 25 => ⟨S_, .f32⟩
  | 26 => ⟨S_, .f32⟩
  | 27 => ⟨S_, .f32⟩
  | 28 => ⟨S8, .f32⟩
  | 29 => ⟨S8x1, .f32⟩
  | 30 => ⟨S8x1, .f32⟩
  | 31 => ⟨S8x1, .f32⟩
  | 32 => ⟨S_, .f32⟩
  | 33 => ⟨S_, .i1⟩
  | 34 => ⟨S_, .f32⟩
  | 35 => ⟨S_, .f32⟩
  | 36 => ⟨S8x1, .f32⟩
  | 37 => ⟨S8x1, .f32⟩
  | 38 => ⟨S8x1, .f32⟩
  | 39 => ⟨S8x256, .f32⟩
  | 40 => ⟨S8x256, .f32⟩
  | 41 => ⟨S8x256, .f32⟩
  | 42 => ⟨S8x256, .f32⟩
  | 43 => ⟨S_, .f32⟩
  | 44 => ⟨S8, .f32⟩
  | 45 => ⟨S8x1x1, .f32⟩
  | 46 => ⟨S_, .f32⟩
  | 47 => ⟨S8x1x1, .f32⟩
  | 48 => ⟨S8x1x1, .f32⟩
  | 49 => ⟨S_, .i32⟩
  | 50 => ⟨S_, .f32⟩
  | 51 => ⟨S8, .f32⟩
  | 52 => ⟨S8x1x1, .f32⟩
  | 53 => ⟨S_, .f32⟩
  | 54 => ⟨S8x1x1, .f32⟩
  | 55 => ⟨S8x1x1, .f32⟩
  | 56 => ⟨S8x512x512, .f32⟩
  | 57 => ⟨S8x512x512, .f32⟩
  | 58 => ⟨S8x512x512, .f32⟩
  | 59 => ⟨S_, .f32⟩
  | 60 => ⟨S_, .f32⟩
  | 61 => ⟨S_, .f32⟩
  | 62 => ⟨S_, .f32⟩
  | 63 => ⟨S8, .f32⟩
  | 64 => ⟨S8x1x1, .f32⟩
  | 65 => ⟨S8x1x1, .f32⟩
  | 66 => ⟨S8x1x1, .f32⟩
  | 67 => ⟨S_, .f32⟩
  | 68 => ⟨S_, .i1⟩
  | 69 => ⟨S_, .f32⟩
  | 70 => ⟨S_, .f32⟩
  | 71 => ⟨S8x1x1, .f32⟩
  | 72 => ⟨S8x1x1, .f32⟩
  | 73 => ⟨S8x1x1, .f32⟩
  | 74 => ⟨S8x512x512, .f32⟩
  | 75 => ⟨S8x512x512, .f32⟩
  | 76 => ⟨S8x512x512, .f32⟩
  | 77 => ⟨S8x512x512, .f32⟩
  | 78 => ⟨S8x1x512x512, .f32⟩
  | _ => ⟨S8x3x512x512, .f32⟩

abbrev hbmTy (i : Nat) : BufTy := match i / 128 with
  | 0 => hbmTy0_0 i
  | 1 => hbmTy0_1 i
  | _ => ⟨S8x3x512x512, .f32⟩

abbrev bufTy : (tb : Table) → Fin (tcTables nBuf tb) → BufTy
  | .hbm, ⟨i, _⟩ => hbmTy i
  | _, _ => ⟨S8x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_cst_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_3 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_cst_5 : Ref sig .tc := ⟨.hbm, 94, rfl⟩
abbrev main_v85 : Ref sig .tc := ⟨.hbm, 95, rfl⟩
abbrev main_v86 : Ref sig .tc := ⟨.hbm, 96, rfl⟩
abbrev main_cst_6 : Ref sig .tc := ⟨.hbm, 97, rfl⟩
abbrev main_cst_7 : Ref sig .tc := ⟨.hbm, 98, rfl⟩
abbrev main_call1_v0 : Ref sig .tc := ⟨.hbm, 99, rfl⟩
abbrev main_call1_v1 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_cst_8 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_c_9 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_c_10 : Ref sig .tc := ⟨.hbm, 114, rfl⟩
abbrev main_v98 : Ref sig .tc := ⟨.hbm, 115, rfl⟩
abbrev main_v99 : Ref sig .tc := ⟨.hbm, 116, rfl⟩
abbrev main_c_11 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_c_12 : Ref sig .tc := ⟨.hbm, 121, rfl⟩
abbrev main_v103 : Ref sig .tc := ⟨.hbm, 122, rfl⟩
abbrev main_v104 : Ref sig .tc := ⟨.hbm, 123, rfl⟩
abbrev main_c_13 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_c_14 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_cst_15 : Ref sig .tc := ⟨.hbm, 136, rfl⟩
abbrev main_v115 : Ref sig .tc := ⟨.hbm, 137, rfl⟩
abbrev main_v116 : Ref sig .tc := ⟨.hbm, 138, rfl⟩
abbrev main_cst_16 : Ref sig .tc := ⟨.hbm, 139, rfl⟩
abbrev main_v117 : Ref sig .tc := ⟨.hbm, 140, rfl⟩
abbrev main_v118 : Ref sig .tc := ⟨.hbm, 141, rfl⟩
abbrev main_c_17 : Ref sig .tc := ⟨.hbm, 142, rfl⟩
abbrev main_call3_call0_cst : Ref sig .tc := ⟨.hbm, 143, rfl⟩
abbrev main_call3_call0_v0 : Ref sig .tc := ⟨.hbm, 144, rfl⟩
abbrev main_call3_call0_v1 : Ref sig .tc := ⟨.hbm, 145, rfl⟩
abbrev main_call3_call0_cst_0 : Ref sig .tc := ⟨.hbm, 146, rfl⟩
abbrev main_call3_call0_v2 : Ref sig .tc := ⟨.hbm, 147, rfl⟩
abbrev main_call3_call0_v3 : Ref sig .tc := ⟨.hbm, 148, rfl⟩
abbrev main_call3_call0_v4 : Ref sig .tc := ⟨.hbm, 149, rfl⟩
abbrev main_call3_call0_v5 : Ref sig .tc := ⟨.hbm, 150, rfl⟩
abbrev main_call3_call0_v6 : Ref sig .tc := ⟨.hbm, 151, rfl⟩
abbrev main_call3_call0_v7 : Ref sig .tc := ⟨.hbm, 152, rfl⟩
abbrev main_call3_call0_cst_1 : Ref sig .tc := ⟨.hbm, 153, rfl⟩
abbrev main_call3_call0_v8 : Ref sig .tc := ⟨.hbm, 154, rfl⟩
abbrev main_call3_call0_cst_2 : Ref sig .tc := ⟨.hbm, 155, rfl⟩
abbrev main_call3_call0_v9 : Ref sig .tc := ⟨.hbm, 156, rfl⟩
abbrev main_call3_call0_v10 : Ref sig .tc := ⟨.hbm, 157, rfl⟩
abbrev main_call3_call0_v11 : Ref sig .tc := ⟨.hbm, 158, rfl⟩
abbrev main_call3_call0_v12 : Ref sig .tc := ⟨.hbm, 159, rfl⟩
abbrev main_call3_call0_cst_3 : Ref sig .tc := ⟨.hbm, 160, rfl⟩
abbrev main_call3_call0_v13 : Ref sig .tc := ⟨.hbm, 161, rfl⟩
abbrev main_call3_call0_cst_4 : Ref sig .tc := ⟨.hbm, 162, rfl⟩
abbrev main_call3_call0_call0_v0 : Ref sig .tc := ⟨.hbm, 163, rfl⟩
abbrev main_call3_call0_call0_v1 : Ref sig .tc := ⟨.hbm, 164, rfl⟩
abbrev main_call3_v0 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_cst_18 : Ref sig .tc := ⟨.hbm, 171, rfl⟩
abbrev main_v124 : Ref sig .tc := ⟨.hbm, 172, rfl⟩
abbrev main_v125 : Ref sig .tc := ⟨.hbm, 173, rfl⟩
abbrev main_cst_19 : Ref sig .tc := ⟨.hbm, 174, rfl⟩
abbrev main_v126 : Ref sig .tc := ⟨.hbm, 175, rfl⟩
abbrev main_v127 : Ref sig .tc := ⟨.hbm, 176, rfl⟩
abbrev main_c_20 : Ref sig .tc := ⟨.hbm, 177, rfl⟩
abbrev main_call4_call0_cst : Ref sig .tc := ⟨.hbm, 178, rfl⟩
abbrev main_call4_call0_v0 : Ref sig .tc := ⟨.hbm, 179, rfl⟩
abbrev main_call4_call0_v1 : Ref sig .tc := ⟨.hbm, 180, rfl⟩
abbrev main_call4_call0_cst_0 : Ref sig .tc := ⟨.hbm, 181, rfl⟩
abbrev main_call4_call0_v2 : Ref sig .tc := ⟨.hbm, 182, rfl⟩
abbrev main_call4_call0_v3 : Ref sig .tc := ⟨.hbm, 183, rfl⟩
abbrev main_call4_call0_v4 : Ref sig .tc := ⟨.hbm, 184, rfl⟩
abbrev main_call4_call0_v5 : Ref sig .tc := ⟨.hbm, 185, rfl⟩
abbrev main_call4_call0_v6 : Ref sig .tc := ⟨.hbm, 186, rfl⟩
abbrev main_call4_call0_v7 : Ref sig .tc := ⟨.hbm, 187, rfl⟩
abbrev main_call4_call0_cst_1 : Ref sig .tc := ⟨.hbm, 188, rfl⟩
abbrev main_call4_call0_v8 : Ref sig .tc := ⟨.hbm, 189, rfl⟩
abbrev main_call4_call0_cst_2 : Ref sig .tc := ⟨.hbm, 190, rfl⟩
abbrev main_call4_call0_v9 : Ref sig .tc := ⟨.hbm, 191, rfl⟩
abbrev main_call4_call0_v10 : Ref sig .tc := ⟨.hbm, 192, rfl⟩
abbrev main_call4_call0_v11 : Ref sig .tc := ⟨.hbm, 193, rfl⟩
abbrev main_call4_call0_v12 : Ref sig .tc := ⟨.hbm, 194, rfl⟩
abbrev main_call4_call0_cst_3 : Ref sig .tc := ⟨.hbm, 195, rfl⟩
abbrev main_call4_call0_v13 : Ref sig .tc := ⟨.hbm, 196, rfl⟩
abbrev main_call4_call0_cst_4 : Ref sig .tc := ⟨.hbm, 197, rfl⟩
abbrev main_call4_call0_call0_v0 : Ref sig .tc := ⟨.hbm, 198, rfl⟩
abbrev main_call4_call0_call0_v1 : Ref sig .tc := ⟨.hbm, 199, rfl⟩
abbrev main_call4_v0 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩

abbrev nD : Nat := 1
abbrev τ : Topo := Topo.v7x

variable {F : FTy → Type} [FloatOps F]
-- ==== Proof.Spec.lean ====
/- What both programs compute, one image at a time: the gray image, its frame of zeros, the eight-bit pattern of a
   pixel, the histogram of the patterns, and the standardisation of a finite family. -/
module

public import Idealize.ShloMosaic.Lib.Pointwise
public import Idealize.ShloMosaic.Lib.IdealHost

@[expose] public section

noncomputable section

namespace Cert.Lbp

open Idealize.ShloMosaic

/-- An image: three channels of 512 rows of 512 pixels. -/
abbrev Img := Fin 3 → Fin 512 → Fin 512 → EReal

/-- The luminance of a pixel. -/
def gray (x : Img) (y z : Fin 512) : EReal :=
  Ideal.ofBits .f32 0x3E991687#32 * x 0 y z + Ideal.ofBits .f32 0x3F1645A2#32 * x 1 y z
    + Ideal.ofBits .f32 0x3DE978D5#32 * x 2 y z

/-- The luminance with a border of zeros, one pixel wide: its row and column count from the border. -/
def padded (x : Img) (r s : ℕ) : EReal :=
  if h : (1 ≤ r ∧ r ≤ 512) ∧ (1 ≤ s ∧ s ≤ 512) then gray x ⟨r - 1, by omega⟩ ⟨s - 1, by omega⟩ else 0

/-- The neighbour of each bit of a pattern, as its row and column in the 3 × 3 square around the pixel. -/
def offset : Fin 8 → ℕ × ℕ := ![(0, 2), (1, 2), (2, 2), (2, 1), (2, 0), (1, 0), (0, 0), (0, 1)]

/-- Whether the neighbour of bit `k` is at least as bright as the pixel. -/
def bit (x : Img) (y z : Fin 512) (k : Fin 8) : Prop :=
  0 ≤ padded x (y + (offset k).1) (z + (offset k).2) - gray x y z

instance (x : Img) (y z : Fin 512) (k : Fin 8) : Decidable (bit x y z k) := Classical.dec _

/-- The pattern of a pixel. -/
def code (x : Img) (y z : Fin 512) : ℕ := ∑ k : Fin 8, if bit x y z k then 2 ^ (k : ℕ) else 0

/-- How many pixels have the pattern `b`. -/
def count (x : Img) (b : ℕ) : ℕ := ∑ y : Fin 512, ∑ z : Fin 512, if code x y z = b then 1 else 0

/-- A pattern has eight bits. -/
theorem code_lt (x : Img) (y z : Fin 512) : code x y z < 256 := by
  have h : code x y z ≤ ∑ k : Fin 8, 2 ^ (k : ℕ) :=
    Finset.sum_le_sum fun k _ => by split <;> simp
  have e : ∑ k : Fin 8, 2 ^ (k : ℕ) = 255 := by decide
  omega

/-- A count is at most the number of pixels. -/
theorem count_le (x : Img) (b : ℕ) : count x b ≤ 262144 := by
  refine (Finset.sum_le_sum fun y _ => Finset.sum_le_sum (g := fun _ => 1) fun z _ => by split <;> simp).trans ?_
  simp

/-! ## Standardising a family -/

section Family

variable {ι : Type} [Fintype ι] (v : ι → EReal) (n d : EReal)

/-- The mean of a family, `n` being its size. -/
def mean : EReal := Ideal.div (∑ i, v i) n

/-- The variance of a family, `d` being its size less one. -/
def variance : EReal := Ideal.div (∑ i, (v i - mean v n) * (v i - mean v n)) d

/-- A member less the mean, over the standard deviation. -/
def standard (i : ι) : EReal := Ideal.div (v i - mean v n) (Ideal.sqrt (variance v n d))

end Family

/-- A product with the reciprocal of a root is the quotient by the root, the root being positive. -/
theorem mul_rsqrt (x v : EReal) (h : 0 < Ideal.sqrt v) : x * Ideal.rsqrt v = Ideal.div x (Ideal.sqrt v) := by
  induction v with
  | bot => exact absurd h (by rw [Ideal.sqrt_bot]; exact not_lt_bot)
  | top => rw [Ideal.sqrt_top, Ideal.rsqrt_top, Ideal.div, if_neg EReal.top_ne_zero, EReal.inv_top]
  | coe r =>
    rw [Ideal.sqrt_coe] at h ⊢
    by_cases hr : r < 0
    · rw [if_pos hr] at h; exact absurd h not_lt_bot
    · rw [if_neg hr] at h ⊢
      have h0 : r ≠ 0 := by rintro rfl; simp at h
      rw [Ideal.div, if_neg h.ne', Ideal.rsqrt_coe, if_neg hr, if_neg h0, EReal.coe_inv]

/-! ## The patterns of the constants -/

theorem ofBits_two : Ideal.ofBits .f32 0x40000000#32 = ((2 : ℝ) : EReal) := by
  simp [Ideal.ofBits, Ideal.ieee, -EReal.coe_mul]; try norm_num
theorem ofBits_four : Ideal.ofBits .f32 0x40800000#32 = ((4 : ℝ) : EReal) := by
  simp [Ideal.ofBits, Ideal.ieee, -EReal.coe_mul]; try norm_num
theorem ofBits_eight : Ideal.ofBits .f32 0x41000000#32 = ((8 : ℝ) : EReal) := by
  simp [Ideal.ofBits, Ideal.ieee, -EReal.coe_mul]; try norm_num
theorem ofBits_16 : Ideal.ofBits .f32 0x41800000#32 = ((16 : ℝ) : EReal) := by
  simp [Ideal.ofBits, Ideal.ieee, -EReal.coe_mul]; try norm_num
theorem ofBits_32 : Ideal.ofBits .f32 0x42000000#32 = ((32 : ℝ) : EReal) := by
  simp [Ideal.ofBits, Ideal.ieee, -EReal.coe_mul]; try norm_num
theorem ofBits_64 : Ideal.ofBits .f32 0x42800000#32 = ((64 : ℝ) : EReal) := by
  simp [Ideal.ofBits, Ideal.ieee, -EReal.coe_mul]; try norm_num
theorem ofBits_128 : Ideal.ofBits .f32 0x43000000#32 = ((128 : ℝ) : EReal) := by
  simp [Ideal.ofBits, Ideal.ieee, -EReal.coe_mul]; try norm_num
theorem ofBits_256 : Ideal.ofBits .f32 0x43800000#32 = ((256 : ℝ) : EReal) := by
  simp [Ideal.ofBits, Ideal.ieee, -EReal.coe_mul]; try norm_num
theorem ofBits_255 : Ideal.ofBits .f32 0x437F0000#32 = ((255 : ℝ) : EReal) := by
  simp [Ideal.ofBits, Ideal.ieee, -EReal.coe_mul]; try norm_num
theorem ofBits_262144 : Ideal.ofBits .f32 0x48800000#32 = ((262144 : ℝ) : EReal) := by
  simp [Ideal.ofBits, Ideal.ieee, -EReal.coe_mul]; try norm_num
theorem ofBits_262143 : Ideal.ofBits .f32 0x487FFFC0#32 = ((262143 : ℝ) : EReal) := by
  simp [Ideal.ofBits, Ideal.ieee, -EReal.coe_mul]; try norm_num
theorem ofBits_neg_one : Ideal.ofBits .f32 0xBF800000#32 = ((-1 : ℝ) : EReal) := by
  simp [Ideal.ofBits, Ideal.ieee, -EReal.coe_mul, -EReal.coe_neg]; try norm_num

/-! ## The pattern as a number -/

/-- A pattern, bit by bit from the lowest, as the sum of the powers of two that are set. -/
theorem code_coe (x : Img) (y z : Fin 512) :
    ((code x y z : ℕ) : EReal) = ∑ k : Fin 8, if bit x y z k then (((2 : ℝ) ^ (k : ℕ) : ℝ) : EReal) else 0 := by
  unfold code
  rw [Nat.cast_sum]
  refine Finset.sum_congr rfl fun k _ => ?_
  split
  · rw [← EReal.coe_natCast]; push_cast; rfl
  · simp

/-- The summand of bit `k` as a program has it: a weight where the neighbour at the bit's offset is as bright, else zero. -/
theorem weight (x : Img) (y z : Fin 512) (k : Fin 8) (w : EReal) (hw : w = (((2 : ℝ) ^ (k : ℕ) : ℝ) : EReal)) (r s : ℕ)
    (hr : r = y + (offset k).1) (hs : s = z + (offset k).2) [Decidable (0 ≤ padded x r s - gray x y z)] :
    (if 0 ≤ padded x r s - gray x y z then w else 0)
      = if bit x y z k then (((2 : ℝ) ^ (k : ℕ) : ℝ) : EReal) else 0 := by
  subst hr hs hw
  exact if_congr Iff.rfl rfl rfl

/-- The patterns of an image as a family of extended reals, -/
def codes (x : Img) (p : Fin 512 × Fin 512) : EReal := (code x p.1 p.2 : ℕ)

/-- and their counts. -/
def counts (x : Img) (b : Fin 256) : EReal := (count x b : ℕ)

/-- Both standard deviations of an image are positive. -/
def Varied (x : Img) : Prop :=
  0 < Ideal.sqrt (variance (codes x) ((262144 : ℝ) : EReal) ((262143 : ℝ) : EReal))
    ∧ 0 < Ideal.sqrt (variance (counts x) ((256 : ℝ) : EReal) ((255 : ℝ) : EReal))

/-- The standardised patterns of an image, -/
def outImage (x : Img) (y z : Fin 512) : EReal := standard (codes x) ((262144 : ℝ) : EReal) ((262143 : ℝ) : EReal) (y, z)

/-- and its standardised histogram. -/
def outHist (x : Img) (b : Fin 256) : EReal := standard (counts x) ((256 : ℝ) : EReal) ((255 : ℝ) : EReal) b

/-- A count as a sum over the pixels of ones. -/
theorem count_coe (x : Img) (b : ℕ) :
    ((count x b : ℕ) : EReal) = ∑ y : Fin 512, ∑ z : Fin 512, if code x y z = b then (1 : EReal) else 0 := by
  simp only [count, Nat.cast_sum, Nat.cast_ite, Nat.cast_one, Nat.cast_zero]

/-- Rounding a natural number to the nearest integer keeps it. -/
theorem round_nat (n : ℕ) : Ideal.liftRound Ideal.roundHalfEven (n : EReal) = (n : EReal) := by
  rw [← EReal.coe_natCast, Ideal.liftRound_coe]
  have : Ideal.roundHalfEven (n : ℝ) = n := by simp [Ideal.roundHalfEven]
  rw [this]; simp

/-- A natural number below `2 ^ 31` as a 32-bit word. -/
theorem fptosi_nat (n : ℕ) (h : n < 2 ^ 31) : Ideal.fptosi 32 (n : EReal) = BitVec.ofNat 32 n := by
  rw [← EReal.coe_natCast, Ideal.fptosi, Ideal.toIntClamped_coe, if_pos (Nat.cast_nonneg n), Int.floor_natCast]
  have : max (-((2 ^ (32 - 1) : ℕ) : ℤ)) (min (((2 ^ (32 - 1) : ℕ) : ℤ) - 1) (n : ℤ)) = n := by
    norm_num at h ⊢; omega
  rw [this]; exact BitVec.ofInt_natCast 32 n

end Cert.Lbp

end
-- ==== Proof.Scatter.lean ====
/- Counting by scattered additions of one. -/
module

public import Idealize.ShloMosaic.Lib.Routing.OpsPair
public import Idealize.ShloMosaic.Lib.Routing.Ops
public import Idealize.ShloMosaic.Lib.ValueIdxCore

@[expose] public section

namespace Cert.Lbp

open Idealize.ShloMosaic Idealize.ShloMosaic.ValueIdx Idealize.ShloMosaic.Routing

/-- A fold that adds one where a property holds adds the number of places where it holds. -/
theorem foldl_ones {ι : Type} (P : ι → Prop) [DecidablePred P] (v : ι → BitVec 32) (hv : ∀ n, v n = 1#32) (l : List ι)
    (z : ℕ) : l.foldl (fun a n => if P n then IntOp.addi a (v n) else a) (BitVec.ofNat 32 z)
      = BitVec.ofNat 32 (z + (l.map fun n => if P n then 1 else 0).sum) := by
  induction l generalizing z with
  | nil => simp
  | cons n l ih =>
    have e : (if P n then IntOp.addi (BitVec.ofNat 32 z) (v n) else BitVec.ofNat 32 z)
        = BitVec.ofNat 32 (z + if P n then 1 else 0) := by
      rw [hv]
      split
      · exact (BitVec.ofNat_add z 1).symm
      · rw [Nat.add_zero]
    rw [List.foldl_cons, e, ih, List.map_cons, List.sum_cons, Nat.add_assoc]

/-- One added per entry of an `A × B` table at the row of the entry and the column it holds: each element of the result
    is how often its row of the table holds its column. -/
theorem scatter_pairs {A B C : ℕ} (d : ScatterDims (shape2 A C) (shape3 A B 2) (shape2 A B))
    (hiw : d.insertedWindowDims = [0, 1]) (hsd : d.scatterDimsToOperandDims = [0, 1]) (hivd : d.indexVectorDim = 2)
    (x0 : IVec (shape2 A C) 32) (idx : IVec (shape3 A B 2) 32) (upd : IVec (shape2 A B) 32) (g : Fin A → Fin B → ℕ)
    (h0 : ∀ i, x0 i = 0#32) (hupd : ∀ i, upd i = 1#32)
    (ha : ∀ a b, (idx (ix3 a b 0)).toInt = a.val) (hg : ∀ a b, (idx (ix3 a b 1)).toInt = g a b)
    (r : Fin A) (c : Fin C) :
    Host.scatter d IntOp.addi x0 idx upd (ix2 r c) = BitVec.ofNat 32 (∑ b : Fin B, if g r b = c.val then 1 else 0) := by
  classical
  rw [scatter_at, h0]
  refine (foldl_ones (fun n => d.resultIdx? ((shape2 A B).rowMajor.symm n) idx = some (ix2 r c)) _ (fun n => hupd _) _ 0).trans ?_
  rw [Nat.zero_add, ← Fin.sum_univ_def,
    Equiv.sum_comp (shape2 A B).rowMajor.symm fun k => if d.resultIdx? k idx = some (ix2 r c) then 1 else 0,
    sum_idx2, Finset.sum_eq_single r]
  · congr 1
    refine Finset.sum_congr rfl fun b _ => if_congr ?_ rfl rfl
    rw [scatter_lands2 d hiw hsd hivd, ha, hg]
    omega
  · intro a _ h
    refine Finset.sum_eq_zero fun b _ => if_neg fun q => h (Fin.ext ?_)
    have := (scatter_lands2 d hiw hsd hivd idx a b r c).1 q
    rw [ha] at this
    omega
  · intro h; exact absurd (Finset.mem_univ _) h

/-- A sum over rows and columns, as one over the places counted row by row. -/
theorem sum_places {m n N : ℕ} (h : N = m * n) (hn : 0 < n) (f : Fin m → Fin n → ℕ) :
    ∑ p : Fin N, f ⟨p.val / n, Nat.div_lt_of_lt_mul (by rw [Nat.mul_comm, ← h]; exact p.isLt)⟩ ⟨p.val % n, Nat.mod_lt _ hn⟩
      = ∑ y, ∑ z, f y z := by
  subst h
  rw [← Fintype.sum_prod_type', ← finProdFinEquiv.symm.sum_comp]
  rfl

end Cert.Lbp
-- ==== Proof.Reference.lean ====
/- What the reference computes, element by element. -/
module

public import proofs.«01_k».proof.Proof.Spec
public import proofs.«01_k».proof.Proof.Gen.ReferenceIdeal.Run
public import proofs.«01_k».proof.Proof.Scatter
public import Idealize.ShloMosaic.Lib.Tactic.CleanTypes

@[expose] public section

set_option maxRecDepth 16384

noncomputable section

namespace Cert.Lbp.Reference

open Idealize.ShloMosaic Idealize.ShloMosaic.TcCoe Cert.ReferenceIdeal Cert.ReferenceIdeal.Gen
open Cert.ReferenceIdeal.Value

variable (V : Valuation τ sig (Elt Ideal))

/-- Image `n` of the argument. -/
def arg (n : Fin 8) : Img := fun ch y z => V (Proc.devRef .tc main_arg0) (ix4 n ch y z)

/-- The padded images are the luminances with their borders. -/
theorem padded_at (n : Fin 8) (r s : Fin 514) :
    res_main_v11 V (ix4 n 0 r s) = padded (arg V n) r s := by
  unfold res_main_v11
  clean_types
  pointwise
  have e : FloatOps.sitofp (F := Ideal) .f32 (0#32) = (0 : EReal) := by
    show (((0#32 : BitVec 32).toInt : ℝ) : EReal) = 0
    simp
  have hr := r.isLt
  have hs := s.isLt
  unfold padded
  by_cases h : (1 ≤ r.val ∧ r.val ≤ 512) ∧ (1 ≤ s.val ∧ s.val ≤ 512)
  · rw [dif_pos h, dif_pos (by omega)]
    rfl
  · rw [dif_neg h, dif_neg (by omega)]
    exact e

/-- The table of the nine weights of each bit: 1 at the bit's neighbour, -1 at the pixel, and 0. -/
theorem table : ∀ (k : Fin 8) (i j : Fin 3), lit0 (S8x1x3x3.rowMajor (ix4 k 0 i j))
    = if ((i : ℕ), (j : ℕ)) = offset k then 0x3F800000#32 else
      if (i : ℕ) = 1 ∧ (j : ℕ) = 1 then 0xBF800000#32 else 0#32 := by
  decide +kernel

/-- The pattern of one. -/
theorem ofBits_one : Ideal.ofBits .f32 0x3F800000#32 = ((1 : ℝ) : EReal) := by
  simp [Ideal.ofBits, Ideal.ieee, -EReal.coe_mul]; try norm_num

/-- The nine weights of each bit, as numbers. -/
theorem weights_at (k : Fin 8) (i j : Fin 3) :
    res_main_cst V (ix4 k 0 i j) = (if ((i : ℕ), (j : ℕ)) = offset k then 1 else
      if (i : ℕ) = 1 ∧ (j : ℕ) = 1 then -1 else 0 : EReal) := by
  unfold res_main_cst
  clean_types
  pointwise
  rw [table]
  by_cases h : ((i : ℕ), (j : ℕ)) = offset k
  · rw [if_pos h, if_pos h, ofBits_one, EReal.coe_one]
  · rw [if_neg h, if_neg h]
    by_cases h' : (i : ℕ) = 1 ∧ (j : ℕ) = 1
    · rw [if_pos h', if_pos h', ofBits_neg_one, EReal.coe_neg, EReal.coe_one]
    · rw [if_neg h', if_neg h']
      exact Ideal.ofBits_zero_f32

/-- The padded image inside its border. -/
theorem padded_inside (x : Img) (y z : Fin 512) : padded x (1 + y) (1 + z) = gray x y z := by
  unfold padded
  have hy := y.isLt
  have hz := z.isLt
  rw [dif_pos (by omega)]
  congr 1 <;> exact Fin.ext (by simp)

/-- Nine products with a bit's weights are its neighbour less the pixel. -/
theorem nine (x : Img) (k : Fin 8) (y z : Fin 512) (w : Fin 3 → Fin 3 → EReal)
    (hw : ∀ i j, w i j = if ((i : ℕ), (j : ℕ)) = offset k then 1 else
      if (i : ℕ) = 1 ∧ (j : ℕ) = 1 then -1 else 0) :
    padded x y z * w 0 0 + padded x y (1 + z) * w 0 1 + padded x y (2 + z) * w 0 2
        + padded x (1 + y) z * w 1 0 + padded x (1 + y) (1 + z) * w 1 1 + padded x (1 + y) (2 + z) * w 1 2
        + padded x (2 + y) z * w 2 0 + padded x (2 + y) (1 + z) * w 2 1 + padded x (2 + y) (2 + z) * w 2 2
      = padded x (y + (offset k).1) (z + (offset k).2) - gray x y z := by
  simp only [hw, padded_inside]
  fin_cases k <;> simp [offset, sub_eq_add_neg, add_comm]

/-- The convolution is a bit's neighbour less the pixel. -/
theorem conv_at (n k : Fin 8) (y z : Fin 512) :
    res_main_v84 V (ix4 n k y z) = padded (arg V n) (y + (offset k).1) (z + (offset k).2) - gray (arg V n) y z := by
  unfold res_main_v84
  clean_types
  pointwise
  simp only [padded_at]
  exact nine (arg V n) k y z (fun i j => res_main_cst V (ix4 k 0 i j)) (weights_at V k)

/-- The table of the powers of two. -/
theorem powers (k : Fin 8) :
    Ideal.ofBits .f32 (lit1 (S1x8x1x1.rowMajor (ix4 0 k 0 0))) = (((2 : ℝ) ^ (k : ℕ) : ℝ) : EReal) := by
  have e : ∀ k : Fin 8, (S1x8x1x1.rowMajor (ix4 0 k 0 0)).val = k.val := by decide +kernel
  rw [show S1x8x1x1.rowMajor (ix4 0 k 0 0) = k from Fin.ext (e k)]
  fin_cases k
  · exact ofBits_one.trans (by norm_num)
  · exact ofBits_two.trans (by norm_num)
  · exact ofBits_four.trans (by norm_num)
  · exact ofBits_eight.trans (by norm_num)
  · exact ofBits_16.trans (by norm_num)
  · exact ofBits_32.trans (by norm_num)
  · exact ofBits_64.trans (by norm_num)
  · exact ofBits_128.trans (by norm_num)

/-- The reference's codes are the patterns. -/
theorem code_at (n : Fin 8) (y z : Fin 512) :
    res_main_v91 V (ix3 n y z) = ((code (arg V n) y z : ℕ) : EReal) := by
  unfold res_main_v91 id
  clean_types
  pointwise
  rw [code_coe]
  refine Finset.sum_congr rfl fun k _ => ?_
  rw [powers, conv_at]
  by_cases h : bit (arg V n) y z k
  · exact (congrArg (· * _) (if_pos h)).trans ((one_mul _).trans (if_pos h).symm)
  · exact (congrArg (· * _) (if_neg h)).trans ((zero_mul _).trans (if_neg h).symm)

/-- The codes as words, one line per image. -/
theorem word_at (n : Fin 8) (p : Fin 262144) :
    res_main_v94 V (ix2 n p) = BitVec.ofNat 32 (code (arg V n) ⟨p / 512, by omega⟩ ⟨p % 512, by omega⟩) := by
  unfold res_main_v94
  clean_types
  pointwise
  rw [code_at, round_nat]
  exact fptosi_nat _ ((code_lt _ _ _).trans (by norm_num))

/-- A small number is the word it is written as, read signed. -/
theorem toInt_small (a : ℕ) (h : a < 256) : (BitVec.ofNat 32 a).toInt = a :=
  StableHlo.Predicate.toInt_ofNat_small a (h.trans (by norm_num))

/-- A small number is not wrapped. -/
theorem wrap_small (a : ℕ) (h : a < 256) (x : BitVec 32) :
    Scalar.select (IntOp.cmpi .slt (BitVec.ofNat 32 a) 0#32) x (BitVec.ofNat 32 a) = BitVec.ofNat 32 a :=
  Routing.wrap_of_lt _ _ (by rw [BitVec.toNat_ofNat, Nat.mod_eq_of_lt] <;> omega)

/-- The images are numbered. -/
theorem number_at (n : Fin 8) : res_main_v97 V (ix2 n 0) = BitVec.ofNat 32 n := by
  unfold res_main_v97
  clean_types
  pointwise

/-- The counts, one line per image. -/
theorem count_at (n : Fin 8) (b : Fin 256) :
    res_main_v114 V (ix2 n b) = counts (arg V n) b := by
  unfold res_main_v114
  clean_types
  refine (congrArg (FloatOps.sitofp .f32) ((congrArg _ (ix2_eq_valueIdx n b)).trans
    (scatter_pairs scatter_S8x256_S8x262144x2_S8x262144_n_01_01_2 rfl rfl rfl _ _ _
      (fun n p => code (arg V n) ⟨p / 512, by omega⟩ ⟨p % 512, by omega⟩) ?_ ?_ ?_ ?_ n b))).trans ?_
  · intro i; rfl
  · intro i; rfl
  · intro a p
    rw [← ix3_eq_valueIdx]
    pointwise
    have ha : a.val < 256 := a.isLt.trans (by norm_num)
    rw [number_at, wrap_small _ ha, toInt_small _ ha]
  · intro a p
    rw [← ix3_eq_valueIdx]
    pointwise
    rw [word_at, wrap_small _ (code_lt _ _ _), toInt_small _ (code_lt _ _ _)]
  · rw [sum_places (m := 512) (n := 512) rfl (by norm_num) fun y z => if code (arg V n) y z = b.val then 1 else 0]
    show FloatOps.sitofp (F := Ideal) .f32 (BitVec.ofNat 32 (count (arg V n) b)) = ((count (arg V n) b : ℕ) : EReal)
    have h := count_le (arg V n) b
    show (((BitVec.ofNat 32 (count (arg V n) b)).toInt : ℝ) : EReal) = _
    rw [StableHlo.Predicate.toInt_ofNat_small _ (h.trans_lt (by norm_num)), Int.cast_natCast, EReal.coe_natCast]

/-- The deviations the reference divides the histograms by, -/
def histDev : FVec Ideal S8x1 .f32 :=
  Host.sqrt (select (broadcastInDim S8x1 ![] bcast_S_S8x1 (cmpf .ogt (res_main_call3_call0_v8 V) (constant S_ .f32 0x00000000#32))) (Host.divf (broadcastInDim S8x1 ![0] bcast_S8_S8x1_0 (Host.reduceAdd (mulf (res_main_call3_call0_v5 V) (res_main_call3_call0_v5 V)) (constant S_ .f32 0x00000000#32) reducesTo_S8x256_S8_d1 h_S_)) (broadcastInDim S8x1 ![] bcast_S_S8x1 (res_main_call3_call0_v8 V))) (broadcastInDim S8x1 ![] bcast_S_S8x1 (id (constant S_ .f32 0x7FC00000#32))))

/-- and the codes. -/
def imageDev : FVec Ideal S8x1x1 .f32 :=
  Host.sqrt (select (broadcastInDim S8x1x1 ![] bcast_S_S8x1x1 (cmpf .ogt (res_main_call4_call0_v8 V) (constant S_ .f32 0x00000000#32))) (Host.divf (broadcastInDim S8x1x1 ![0] bcast_S8_S8x1x1_0 (Host.reduceAdd (mulf (res_main_call4_call0_v5 V) (res_main_call4_call0_v5 V)) (constant S_ .f32 0x00000000#32) reducesTo_S8x512x512_S8_d1_2 h_S_)) (broadcastInDim S8x1x1 ![] bcast_S_S8x1x1 (res_main_call4_call0_v8 V))) (broadcastInDim S8x1x1 ![] bcast_S_S8x1x1 (id (constant S_ .f32 0x7FC00000#32))))

/-- The histograms the reference returns, -/
def histOut : FVec Ideal S8x256 .f32 :=
  Host.divf (subf (res_main_v114 V) (broadcastInDim S8x256 ![0, 1] bcast_S8x1_S8x256_0_1 (Host.divf (broadcastInDim S8x1 ![0] bcast_S8_S8x1_0 (Host.reduceAdd (res_main_v114 V) (constant S_ .f32 0x00000000#32) reducesTo_S8x256_S8_d1 h_S_)) (broadcastInDim S8x1 ![] bcast_S_S8x1 (constant S_ .f32 0x43800000#32))))) (broadcastInDim S8x256 ![0, 1] bcast_S8x1_S8x256_0_1 (histDev V))

/-- and the codes. -/
def imageOut : FVec Ideal S8x1x512x512 .f32 :=
  broadcastInDim S8x1x512x512 ![0, 2, 3] bcast_S8x512x512_S8x1x512x512_0_2_3 (Host.divf (subf (res_main_v91 V) (broadcastInDim S8x512x512 ![0, 1, 2] bcast_S8x1x1_S8x512x512_0_1_2 (Host.divf (broadcastInDim S8x1x1 ![0] bcast_S8_S8x1x1_0 (Host.reduceAdd (res_main_v91 V) (constant S_ .f32 0x00000000#32) reducesTo_S8x512x512_S8_d1_2 h_S_)) (broadcastInDim S8x1x1 ![] bcast_S_S8x1x1 (constant S_ .f32 0x48800000#32))))) (broadcastInDim S8x512x512 ![0, 1, 2] bcast_S8x1x1_S8x512x512_0_1_2 (imageDev V)))

/-- The word of one as a number. -/
theorem sitofp_one : FloatOps.sitofp (F := Ideal) .f32 (1#32) = ((1 : ℝ) : EReal) := by
  show (((1#32 : BitVec 32).toInt : ℝ) : EReal) = _
  simp

/-- The degrees of freedom of a histogram, -/
theorem hist_free : Ideal.ofBits .f32 0x43800000#32 - FloatOps.sitofp (F := Ideal) .f32 (1#32) = ((255 : ℝ) : EReal) := by
  rw [ofBits_256, sitofp_one, ← EReal.coe_sub]; norm_num

/-- and of an image. -/
theorem image_free : Ideal.ofBits .f32 0x48800000#32 - FloatOps.sitofp (F := Ideal) .f32 (1#32) = ((262143 : ℝ) : EReal) := by
  rw [ofBits_262144, sitofp_one, ← EReal.coe_sub]; norm_num

/-- A histogram's deviation is the root of its variance. -/
theorem histDev_at (n : Fin 8) :
    histDev V (ix2 n 0) = Ideal.sqrt (variance (counts (arg V n)) ((256 : ℝ) : EReal) ((255 : ℝ) : EReal)) := by
  unfold histDev
  clean_types
  pointwise [res_main_call3_call0_v5, res_main_call3_call0_v8]
  simp only [count_at, hist_free]
  rw [if_pos (EReal.coe_pos.2 (by norm_num)), ofBits_256]
  rfl

/-- An image's deviation is the root of its variance. -/
theorem imageDev_at (n : Fin 8) :
    imageDev V (ix3 n 0 0)
      = Ideal.sqrt (variance (codes (arg V n)) ((262144 : ℝ) : EReal) ((262143 : ℝ) : EReal)) := by
  unfold imageDev
  clean_types
  pointwise [res_main_call4_call0_v5, res_main_call4_call0_v8]
  simp only [code_at, image_free]
  rw [if_pos (EReal.coe_pos.2 (by norm_num)), ofBits_262144, variance, mean, Fintype.sum_prod_type,
    Fintype.sum_prod_type]
  rfl

/-- The reference's standardised histogram. -/
theorem histOut_at (n : Fin 8) (b : Fin 256) : histOut V (ix2 n b) = outHist (arg V n) b := by
  unfold histOut
  clean_types
  pointwise
  simp only [count_at, histDev_at]
  rw [ofBits_256]
  rfl

/-- The reference's standardised codes. -/
theorem imageOut_at (n : Fin 8) (y z : Fin 512) : imageOut V (ix4 n 0 y z) = outImage (arg V n) y z := by
  unfold imageOut
  clean_types
  pointwise
  simp only [code_at, imageDev_at]
  rw [ofBits_262144, outImage, standard, mean, Fintype.sum_prod_type]
  rfl

end Cert.Lbp.Reference

end
-- ==== Proof.Varied.lean ====
/- The precondition, read: both deviations of every image are positive. -/
module

public import proofs.«01_k».proof.Proof.Reference
public import proofs.«01_k».proof.Pre_varied
public import Idealize.ShloMosaic.Lib.ReduceAll

@[expose] public section

set_option maxRecDepth 16384

noncomputable section

namespace Cert.Lbp.Reference

open Idealize.ShloMosaic Idealize.ShloMosaic.TcCoe Cert.ReferenceIdeal Cert.ReferenceIdeal.Gen

/-- The shapes the precondition names fit together. -/
instance varied_facts : Cert.Pre_varied.Facts := by constructor <;> decide

variable (V : Valuation τ sig (Elt Ideal))

/-- The precondition asks that the reference's two deviations be positive throughout. -/
theorem varied_eq : Cert.Pre_varied.fn (F := Ideal) (V (Proc.devRef .tc main_arg0))
    = andi
      (Host.reduce IntOp.andi
        (cmpf .ogt (histDev V) (broadcastInDim S8x1 ![] bcast_S_S8x1 (constant S_ .f32 0x00000000#32)))
        (constantI S_ 1 1#1) Cert.Pre_varied.Facts.reducesTo_S8x1_S_d0_1 h_S_)
      (Host.reduce IntOp.andi
        (cmpf .ogt (imageDev V) (broadcastInDim S8x1x1 ![] bcast_S_S8x1x1 (constant S_ .f32 0x00000000#32)))
        (constantI S_ 1 1#1) Cert.Pre_varied.Facts.reducesTo_S8x1x1_S_d0_1_2 h_S_) := by
  rfl

/-- Under the precondition every image varies. -/
theorem varied (h : Cert.Pre_varied.fn (F := Ideal) (V (Proc.devRef .tc main_arg0)) = fun _ => 1#1) (n : Fin 8) :
    Varied (arg V n) := by
  rw [varied_eq] at h
  have h' := congrFun h ix0
  obtain ⟨h1, h2⟩ := IntOp.andi_eq_one.1 h'
  have e1 := Host.reduce_andi_all _ _ _ _ _ h1 (ix2 n 0)
  have e2 := Host.reduce_andi_all _ _ _ _ _ h2 (ix3 n 0 0)
  refine ⟨?_, ?_⟩
  · rw [← imageDev_at]
    pointwise at e2
    exact (Ideal.cmp_ogt_eq_one _ _).1 e2
  · rw [← histDev_at]
    pointwise at e1
    exact (Ideal.cmp_ogt_eq_one _ _).1 e1

end Cert.Lbp.Reference

end
-- ==== Proof.Payload.lean ====
/- What the kernel's body computes of one block, element by element. -/
module

public import proofs.«01_k».proof.Proof.Spec
public import proofs.«01_k».proof.Proof.Gen.KernelIdeal.Skeleton

@[expose] public section

set_option maxRecDepth 16384

noncomputable section

namespace Cert.Lbp.Payload

open Idealize.ShloMosaic Cert.KernelIdeal Cert.KernelIdeal.Gen

/-- A block's image. -/
def image (v : Vec Ideal S1x3x512x512 .f32) : Img := fun ch y z => v (ix4 0 ch y z)

/-- The body's gray image is the luminance. -/
theorem gray_at (v : Vec Ideal S1x3x512x512 .f32) (y z : Fin 512) :
    k0_pay2 v (ix2 y z) = gray (image v) y z := by
  pointwise [k0_pay2]
  rfl

/-- The body's padded image is the luminance with its border. -/
theorem padded_at (v : Vec Ideal S1x3x512x512 .f32) (r s : Fin 514) :
    k0_pay3 v (ix2 r s) = padded (image v) r s := by
  pointwise [k0_pay3]
  have e : (((0#32 : BitVec 32).toInt : ℝ) : EReal) = 0 := by simp
  have hr := r.isLt
  have hs := s.isLt
  unfold padded
  by_cases h : (1 ≤ r.val ∧ r.val ≤ 512) ∧ (1 ≤ s.val ∧ s.val ≤ 512)
  · rw [dif_pos h, dif_pos (by omega), dif_neg (by omega), dif_pos (by omega), dif_neg (by omega)]
    exact gray_at v _ _
  · rw [dif_neg h]
    simp only [e]
    split_ifs <;> first | rfl | (exfalso; omega)

/-- The body's code is the pattern. -/
theorem code_at (v : Vec Ideal S1x3x512x512 .f32) (y z : Fin 512) :
    k0_pay7 (k0_pay5 (k0_pay2 v) (k0_pay3 v) (k0_pay4 v)) (k0_pay6 (k0_pay2 v) (k0_pay3 v)) (ix2 y z)
      = (code (image v) y z : ℕ) := by
  pointwise [k0_pay4, k0_pay5, k0_pay6, k0_pay7]
  simp only [padded_at, gray_at]
  rw [code_coe, Fin.sum_univ_eight]
  refine congrArg₂ (· + ·) (congrArg₂ (· + ·) (congrArg₂ (· + ·) (congrArg₂ (· + ·) (congrArg₂ (· + ·)
    (congrArg₂ (· + ·) (congrArg₂ (· + ·) (weight _ y z 0 _ ?_ _ _ ?_ ?_) (weight _ y z 1 _ ?_ _ _ ?_ ?_))
    (weight _ y z 2 _ ?_ _ _ ?_ ?_)) (weight _ y z 3 _ ?_ _ _ ?_ ?_)) (weight _ y z 4 _ ?_ _ _ ?_ ?_))
    (weight _ y z 5 _ ?_ _ _ ?_ ?_)) (weight _ y z 6 _ ?_ _ _ ?_ ?_)) (weight _ y z 7 _ ?_ _ _ ?_ ?_)
  all_goals first
    | simp [offset]; done
    | simp [offset, Nat.add_comm]; done
    | simp only [ofBits_two, ofBits_four, ofBits_eight, ofBits_16, ofBits_32, ofBits_64, ofBits_128]; norm_num; done

/-- A loop that adds to one element computes the sum of what it adds there. -/
theorem fold_add {n : ℕ} {ι : Type} (g : Fin n → (ι → EReal) → ι → EReal) (w : Fin n → EReal) (i : ι)
    (hg : ∀ t h, g t h i = h i + w t) (init : ι → EReal) : Scf.fold g init i = init i + ∑ t, w t := by
  rw [Scf.fold_eq, Fin.sum_univ_def]
  generalize List.finRange n = l
  induction l generalizing init with
  | nil => simp
  | cons t l ih => rw [List.foldl_cons, ih, hg, List.map_cons, List.sum_cons, add_assoc]

/-- The loop's histogram, from the codes. -/
def hist (v83 : FVec Ideal S512x512 .f32) (v87 : IVec S512x512 1) : FVec Ideal S1x256 .f32 :=
  Scf.fold (fun t acc => k0_pay10 v83 v87 t acc) k0_pay9

/-- The loop's histogram counts the pixels of each pattern. -/
theorem hist_at (x : Img) (v83 : FVec Ideal S512x512 .f32) (v87 : IVec S512x512 1)
    (h : ∀ y z, k0_pay7 v83 v87 (ix2 y z) = (code x y z : ℕ)) (b : Fin 256) :
    hist v83 v87 (ix2 0 b) = counts x b := by
  have e : k0_t1_loop.trips = 256 := by decide
  have iv (t : Fin k0_t1_loop.trips) : Scf.iv 0#32 1#32 t = BitVec.ofNat 32 t := by simp [Scf.iv]
  have lt (t : Fin k0_t1_loop.trips) : t.val < 256 := e ▸ t.isLt
  refine (fold_add _ (fun t => if t.val = b.val then counts x b else 0) _ (fun t acc => ?_) _).trans ?_
  · pointwise [k0_pay10]
    have ht := lt t
    refine congrArg (_ + ·) ?_
    have ti : (BitVec.ofNat 32 t.val).toInt = t.val := by
      rw [BitVec.toInt_eq_toNat_of_lt (by simp; omega)]; simp; omega
    have eb : IntOp.cmpi .eq (BitVec.ofNat 32 b.val) (BitVec.ofNat 32 t.val) = BitVec.ofBool (decide (t.val = b.val)) := by
      have hb := b.isLt
      rw [IntOp.cmpi]
      refine congrArg BitVec.ofBool (decide_eq_decide.2 ⟨fun hh => ?_, fun hh => by rw [hh]⟩)
      have := congrArg BitVec.toNat hh
      simp at this
      omega
    rw [iv, ti, eb]
    by_cases htb : t.val = b.val
    · have ec (y z : Fin 512) : ((code x y z : ℕ) : EReal) = (((b.val : ℤ) : ℝ) : EReal) ↔ code x y z = b.val := by
        rw [Int.cast_natCast, EReal.coe_natCast]; exact Nat.cast_inj
      rw [htb, if_pos rfl, counts, count_coe]
      simp only [h, ec]
      simp only [decide_true]
      rfl
    · rw [if_neg htb, decide_eq_false htb]
      rfl
  · rw [Finset.sum_eq_single (⟨b.val, by rw [e]; exact b.isLt⟩ : Fin k0_t1_loop.trips)
      (fun t _ ht => if_neg fun h => ht (Fin.ext h)) (fun h => absurd (Finset.mem_univ _) h), if_pos rfl]
    pointwise [k0_pay9]

/-- The body's standardised codes. -/
theorem image_at (v83 : FVec Ideal S512x512 .f32) (v87 : IVec S512x512 1) (x : Img)
    (h : ∀ y z, k0_pay7 v83 v87 (ix2 y z) = (code x y z : ℕ)) (hx : Varied x) (y z : Fin 512) :
    k0_pay8 v83 v87 (ix4 0 0 y z) = outImage x y z := by
  rw [outImage, standard, ← mul_rsqrt _ _ hx.1, variance, mean, Fintype.sum_prod_type, Fintype.sum_prod_type]
  pointwise [k0_pay8]
  simp only [h, ofBits_262144, ofBits_262143]
  rfl

/-- The body's standardised histogram. -/
theorem hist_out (v116 : FVec Ideal S1x256 .f32) (x : Img) (h : ∀ b, v116 (ix2 0 b) = counts x b)
    (hx : Varied x) (b : Fin 256) :
    k0_pay1 v116 (k0_pay11 v116) (k0_pay12 v116) (ix3 0 0 b) = outHist x b := by
  rw [outHist, standard, ← mul_rsqrt _ _ hx.2, variance, mean]
  pointwise [k0_pay1, k0_pay11, k0_pay12]
  simp only [h, ofBits_256, ofBits_255, Finset.univ_unique, Finset.sum_singleton]
  rfl

end Cert.Lbp.Payload

end
-- ==== Proof.Blocks.lean ====
/- What the kernel leaves in its two output buffers at a grid point. -/
module

public import proofs.«01_k».proof.Proof.Payload
public import proofs.«01_k».proof.Proof.Gen.KernelIdeal.Frame
public import Idealize.ShloMosaic.Lib.Pipeline.ValueKit

@[expose] public section

set_option maxRecDepth 16384

noncomputable section

namespace Cert.Lbp.Blocks

open Idealize.ShloMosaic Idealize.ShloMosaic.TcCoe Cert.KernelIdeal Cert.KernelIdeal.Gen Idealize.SL.Sem Cert.Lbp.Payload

variable (m : (ℓ : Loc nD τ sig) → Buf (Elt Ideal) ℓ)

/-- Image `n` of the argument of device `c`. -/
def arg (c : Dev nD) (n : Fin 8) : Img := fun ch y z => m ((c.tc : Thread nD τ).loc main_arg0) (ix4 n ch y z)

/-- Grid point `t` reads image `t`, -/
theorem index_in : ∀ t : Fin cfg0.N, win0_0.index t = ![t.val, 0, 0, 0] :=
  (by decide +kernel : ∀ t : Fin grid0.N, _)

/-- writes histogram `t`, -/
theorem index_hist : ∀ t : Fin cfg0.N, win0_1.index t = ![t.val, 0, 0] :=
  (by decide +kernel : ∀ t : Fin grid0.N, _)

/-- and writes image `t`. -/
theorem index_image : ∀ t : Fin cfg0.N, win0_2.index t = ![t.val, 0, 0, 0] :=
  (by decide +kernel : ∀ t : Fin grid0.N, _)

/-- There are eight grid points. -/
theorem point_lt (t : Fin cfg0.N) : t.val < 8 := lt_of_lt_of_eq t.isLt (by decide +kernel)

/-- The block read at grid point `t` is image `t`. -/
theorem image_block (c : Dev nD) (t : Fin cfg0.N) : image (iblk m c 0 t) = arg m c ⟨t.val, point_lt t⟩ := by
  funext ch y z
  show iblk m c 0 t (ix4 0 ch y z) = m ((c.tc : Thread nD τ).loc main_arg0) (ix4 _ ch y z)
  blk_point [iblk, V, index_in t]

/-- The body's codes at an index of its block, -/
theorem image_point (v : Vec Ideal S1x3x512x512 .f32) (x : Img) (h : image v = x) (hx : Varied x)
    (y : S1x1x512x512.Idx) :
    k0_pay8 (k0_pay5 (k0_pay2 v) (k0_pay3 v) (k0_pay4 v)) (k0_pay6 (k0_pay2 v) (k0_pay3 v)) y
      = outImage x (y 2) (y 3) := by
  subst h
  have ey : y = ix4 (0 : Fin 1) (0 : Fin 1) (y 2 : Fin 512) (y 3 : Fin 512) := by blk_ext
  exact (congrArg _ ey).trans (image_at _ _ _ (code_at v) hx _ _)

/-- and its histogram. -/
theorem hist_point (v : Vec Ideal S1x3x512x512 .f32) (x : Img) (h : image v = x) (hx : Varied x)
    (y : S1x1x256.Idx) (u : FVec Ideal S1x256 .f32)
    (hu : u = hist (k0_pay5 (k0_pay2 v) (k0_pay3 v) (k0_pay4 v)) (k0_pay6 (k0_pay2 v) (k0_pay3 v))) :
    k0_pay1 u (k0_pay11 u) (k0_pay12 u) y = outHist x (y 2) := by
  subst h hu
  have ey : y = ix3 (0 : Fin 1) (0 : Fin 1) (y 2 : Fin 256) := by blk_ext
  exact (congrArg _ ey).trans (hist_out _ _ (hist_at _ _ _ (code_at v)) hx _)

/-- The standardised codes at equal places are equal, -/
theorem outImage_congr (c : Dev nD) {n n' : Fin 8} {y y' z z' : Fin 512} (hn : n = n') (hy : y = y') (hz : z = z') :
    outImage (arg m c n) y z = outImage (arg m c n') y' z' := by rw [hn, hy, hz]

/-- and so are the histograms. -/
theorem outHist_congr (c : Dev nD) {n n' : Fin 8} {b b' : Fin 256} (hn : n = n') (hb : b = b') :
    outHist (arg m c n) b = outHist (arg m c n') b' := by rw [hn, hb]

/-- The codes' array ends with every image's standardised patterns. -/
theorem image_end (c : Dev nD) (hx : ∀ n, Varied (arg m c n)) :
    (dats m 0 c).arrAt 2 cfg0.N = fun i => outImage (arg m c (i 0)) (i 2) (i 3) := by
  refine (dats m 0 c).arrAt_eq_of_covers 2 _ (by decide +kernel) fun t hf y => ?_
  blk_simp
  rw [after0_2]
  unfold outsAt0
  frame_out
  refine (image_point _ _ (image_block m c t) (hx _) _).trans (outImage_congr m c ?_ ?_ ?_)
  all_goals apply Fin.ext; symm; blk_simp [index_image t] <;> (idx_bounds y; omega)

/-- The histograms' array ends with every image's standardised histogram. -/
theorem hist_end (c : Dev nD) (hx : ∀ n, Varied (arg m c n)) :
    (dats m 0 c).arrAt 1 cfg0.N = fun i => outHist (arg m c (i 0)) (i 2) := by
  refine (dats m 0 c).arrAt_eq_of_covers 1 _ (by decide +kernel) fun t hf y => ?_
  blk_simp
  rw [after0_1]
  unfold outsAt0
  frame_out
  refine (hist_point _ _ (image_block m c t) (hx _) _ _ rfl).trans (outHist_congr m c ?_ ?_)
  all_goals apply Fin.ext; symm; blk_simp [index_hist t] <;> (idx_bounds y; omega)

end Cert.Lbp.Blocks

end
-- ==== Proof.Value.lean ====
/- Both programs end with the same standardised histograms and codes. -/
module

public import proofs.«01_k».proof.Defs
public import proofs.«01_k».proof.Proof.Blocks
public import proofs.«01_k».proof.Proof.Varied
public import Idealize.ShloMosaic.Lib.Claim

@[expose] public section

set_option maxRecDepth 16384

noncomputable section

namespace Cert.Lbp

open Idealize.ShloMosaic Idealize.ShloMosaic.TcCoe Idealize.SL.Sem

/-- An array of eight images. -/
abbrev Images := FVec Ideal ⟨4, ![8, 3, 512, 512]⟩ .f32

/-- Image `n` of an array. -/
def nth (a : Images) (n : Fin 8) : Img := fun ch y z => a (ix4 n ch y z)

/-- The standardised histograms of an array's images, -/
def hists (a : Images) : FVec Ideal ⟨2, ![8, 256]⟩ .f32 := fun i => outHist (nth a (i 0)) (i 1)

/-- and their standardised codes. -/
def images (a : Images) : FVec Ideal ⟨4, ![8, 1, 512, 512]⟩ .f32 := fun i => outImage (nth a (i 0)) (i 2) (i 3)

section Kernel

open Cert.KernelIdeal Cert.KernelIdeal.Gen

/-- The last line reads the histograms' array without its middle axis. -/
theorem tail (m : (ℓ : Loc nD τ sig) → Buf (Elt Ideal) ℓ) (c : Dev nD) :
    Pipeline.afterTail₀ cfgs (dats m) 0 (V0 m) [hostOps1] c main_v1
      = shapeCast S8x256 (show FVec Ideal S8x1x256 .f32 from (dats m 0 c).arrAt 1 cfg0.N) shapeCasts_S8x1x256_S8x256 := by
  unfold Pipeline.afterTail₀
  simp only [List.flatten_cons, List.flatten_nil, List.append_nil]
  after_results
  exact congrArg (fun a : FVec Ideal S8x1x256 .f32 => shapeCast S8x256 a shapeCasts_S8x1x256_S8x256)
    (Pipeline.withArrays_arr spec0 (by decide) c _ _ 1)

/-- The kernel ends with both, where every image varies, its argument unchanged. -/
theorem kernel_run (m : (ℓ : Loc nD τ sig) → Buf (Elt Ideal) ℓ) (g : Dev nD → PrngReg)
    (hx : ∀ c n, Varied (Blocks.arg m c n)) :
    θ_run (defs (F := Ideal)) (onTc (τ := τ) (main (F := Ideal))) ⟨m, fun _ => 0, g⟩ (fun r => ∀ c : Dev nD,
      r.2.mem ((c.tc : Thread nD τ).loc main_v1) = hists (m ((c.tc : Thread nD τ).loc main_arg0))
      ∧ r.2.mem ((c.tc : Thread nD τ).loc main_v0_1) = images (m ((c.tc : Thread nD τ).loc main_arg0))
      ∧ r.2.mem ((c.tc : Thread nD τ).loc main_arg0) = m ((c.tc : Thread nD τ).loc main_arg0)) := by
  run_from run_main m g
  · refine (tail m c).trans (funext fun i => ?_)
    rw [Blocks.hist_end m c (hx c)]
    have e : i = ix2 (i 0 : Fin 8) (i 1 : Fin 256) := by blk_ext
    rw [e]
    pointwise
    rfl
  · exact Blocks.image_end m c (hx c)

end Kernel

section Reference

open Cert.ReferenceIdeal Cert.ReferenceIdeal.Gen

/-- The reference ends with both, on any images, its argument unchanged. -/
theorem reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v123) = hists (m ((c.tc : Thread nD τ).loc main_arg0))
      ∧ r.2.mem ((c.tc : Thread nD τ).loc main_v133) = images (m ((c.tc : Thread nD τ).loc main_arg0))
      ∧ r.2.mem ((c.tc : Thread nD τ).loc main_arg0) = m ((c.tc : Thread nD τ).loc main_arg0)) := by
  have eh : ∀ V, Reference.histOut V = hists (V (Proc.devRef .tc main_arg0)) := fun V => funext fun i => by
    have e : i = ix2 (i 0 : Fin 8) (i 1 : Fin 256) := by blk_ext
    exact (congrArg _ e).trans (Reference.histOut_at V (i 0) (i 1))
  have ei : ∀ V, Reference.imageOut V = images (V (Proc.devRef .tc main_arg0)) := fun V => funext fun i => by
    have e : i = ix4 (i 0 : Fin 8) (0 : Fin 1) (i 2 : Fin 512) (i 3 : Fin 512) := by blk_ext
    exact (congrArg _ e).trans (Reference.imageOut_at V (i 0) (i 2) (i 3))
  exact θ_run_mono (Cert.ReferenceIdeal.Value.run m g) fun r h c =>
    ⟨(h c).1.trans (eh (StableHlo.launchContents m c)), (h c).2.1.trans (ei (StableHlo.launchContents m c)), (h c).2.2⟩

end Reference

/-- The two programs agree where every image varies. -/
theorem agree : Cert.algebraic_KernelIdeal_ReferenceIdeal_pre_varied := by
  intro m g m' g' hpre hagree
  have hx : ∀ c n, Varied (Blocks.arg m c n) := by
    intro c n
    have hV : StableHlo.launchContents m' c (Proc.devRef .tc Cert.ReferenceIdeal.main_arg0)
      = m ((c.tc : Thread Cert.KernelIdeal.nD Cert.KernelIdeal.τ).loc Cert.KernelIdeal.main_arg0) := hagree c
    have h := Reference.varied (StableHlo.launchContents m' c) (by rw [hV]; exact hpre c) n
    have e : Reference.arg (StableHlo.launchContents m' c) n = Blocks.arg m c n := by
      funext ch y z
      exact congrFun hV _
    rwa [e] at h
  refine ⟨fun c => hists (m ((c.tc : Thread Cert.KernelIdeal.nD Cert.KernelIdeal.τ).loc Cert.KernelIdeal.main_arg0)),
    fun c => images (m ((c.tc : Thread Cert.KernelIdeal.nD Cert.KernelIdeal.τ).loc Cert.KernelIdeal.main_arg0)),
    kernel_run m g hx, θ_run_mono (reference_run m' g') fun r h c => ⟨(h c).1.trans ?_, (h c).2.1.trans ?_, (h c).2.2⟩⟩
  · exact congrArg hists (hagree c)
  · exact congrArg images (hagree c)

end Cert.Lbp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Varied
public import proofs.«01_k».proof.Proof.Value
public import Idealize.ShloMosaic.Adequacy
public import Idealize.ShloMosaic.Lib.Quiescent
public import Idealize.ShloMosaic.Init

@[expose] public section

noncomputable section

namespace Cert.Proof

open Idealize.ShloMosaic Idealize.SL.Sem

/-- The ideal reference ends with its argument unchanged and every semaphore counter at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run Cert.ReferenceIdeal.defs (onTc (τ := Cert.ReferenceIdeal.τ) (Cert.ReferenceIdeal.main (F := Ideal))) ⟨m, fun _ => 0, ρ⟩ fun r =>
      (∀ c : Dev Cert.ReferenceIdeal.nD, r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)) ∧ r.2.sem = fun _ => 0 :=
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- The five claims: the three frames (the ideal ones with and without the precondition), the
preservation, and the equality of the results under the precondition. -/
theorem claim : Cert.Claim := ⟨Cert.Kernel.Gen.facts, Cert.KernelIdeal.Gen.facts, Cert.ReferenceIdeal.Gen.facts,
  Cert.Lbp.Reference.varied_facts,
  fun m ρ _ => Cert.Kernel.Gen.frame m ρ,
  fun m ρ _ => Cert.KernelIdeal.Gen.frame m ρ, fun m ρ _ => Cert.KernelIdeal.Gen.frame m ρ,
  fun m ρ _ => reference_frame m ρ, fun m ρ _ => reference_frame m ρ,
  trivial, Cert.Lbp.agree⟩

end Cert.Proof

end
